-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x1024 : Shape := ⟨2, ![1024, 1024]⟩
abbrev S1024x64 : Shape := ⟨2, ![1024, 64]⟩
abbrev S2x1024x512 : Shape := ⟨3, ![2, 1024, 512]⟩
abbrev S16x64x64 : Shape := ⟨3, ![16, 64, 64]⟩
abbrev S14680064 : Shape := ⟨1, ![14680064]⟩
abbrev S2 : Shape := ⟨1, ![2]⟩
abbrev S_ : Shape := ⟨0, ![]⟩
abbrev S16 : Shape := ⟨1, ![16]⟩
abbrev S1 : Shape := ⟨1, ![1]⟩
abbrev S1x1024x512 : Shape := ⟨3, ![1, 1024, 512]⟩
abbrev S1024x512 : Shape := ⟨2, ![1024, 512]⟩
abbrev S64x512 : Shape := ⟨2, ![64, 512]⟩
abbrev S64x64 : Shape := ⟨2, ![64, 64]⟩
abbrev S1x64x64 : Shape := ⟨3, ![1, 64, 64]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x64, .f32⟩
  | .local _ .vmem, ⟨0, _⟩ => ⟨S1024x64, .f32⟩
  | .local _ .vmem, ⟨1, _⟩ => ⟨S64x1024, .f32⟩
  | .local _ .vmem, ⟨2, _⟩ => ⟨S2x1024x512, .f32⟩
  | .local _ .vmem, ⟨3, _⟩ => ⟨S16x64x64, .f32⟩
  | .local _ .vmem, ⟨4, _⟩ => ⟨S14680064, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_68 : BitVec 32) : Fin 2 → Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_61 : BitVec 32 := 0#32
  let v65 : BitVec 1 := Scalar.cmpi .sgt v2 c0_i32_61
  let v66 : BitVec 32 := Scalar.extui v65
  let c0_i32_62 : BitVec 32 := 0#32
  let v67 : BitVec 1 := Scalar.cmpi .slt v2 c0_i32_62
  let v68 : BitVec 32 := Scalar.extui v67
  let v69 : BitVec 32 := Scalar.subi v66 v68
  let c8_i32_60 : BitVec 32 := 8#32
  let c0_i32_63 : BitVec 32 := 0#32
  let v70 : BitVec 1 := Scalar.cmpi .sgt c8_i32_60 c0_i32_63
  let v71 : BitVec 32 := Scalar.extui v70
  let c0_i32_64 : BitVec 32 := 0#32
  let v72 : BitVec 1 := Scalar.cmpi .slt c8_i32_60 c0_i32_64
  let v73 : BitVec 32 := Scalar.extui v72
  let v74 : BitVec 32 := Scalar.subi v71 v73
  let v75 : BitVec 1 := Scalar.cmpi .ne v69 v74
  let v76 : BitVec 32 := Scalar.remsi v2 c8_i32_60
  let c0_i32_65 : BitVec 32 := 0#32
  let v77 : BitVec 1 := Scalar.cmpi .ne v76 c0_i32_65
  let v78 : BitVec 1 := Scalar.andi v75 v77
  let v64 : BitVec 32 := Scalar.divsi v2 c8_i32_60
  let c1_i32_66 : BitVec 32 := 1#32
  let v79 : BitVec 32 := Scalar.subi v64 c1_i32_66
  let v80 : BitVec 32 := Scalar.select v78 v79 v64
  let c1_i32_67 : BitVec 32 := 1#32
  let v81 : BitVec 32 := Scalar.addi v80 c1_i32_67
  let v82 : BitVec 32 := Scalar.addi v81 c0_i32_68
  let c2_i32_69 : BitVec 32 := 2#32
  let v83 : BitVec 32 := Scalar.remsi v82 c2_i32_69
  let c512_i32 : BitVec 32 := 512#32
  let v84 : BitVec 32 := Scalar.muli v83 c512_i32
  ![0, v84.toNat]
def k0_off2 (d0 : Dev nD) (c0_i32_113 : BitVec 32) (c0_i32_116 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let v159 : BitVec 32 := Scalar.addi v158 c0_i32_116
  let v161 : Index := Scalar.indexCast v159
  let c0_117 : Index := 0#32
  let c0_118 : Index := 0#32
  ![v161.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  let v166 : BitVec 1 := Scalar.cmpi .ne v159 v2
  let v167 : BitVec 32 := Scalar.extui v166
  let c0_i32_119 : BitVec 32 := 0#32
  let v168 : BitVec 1 := Scalar.cmpi .ne v167 c0_i32_119
  v168

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  ![v159.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v165 : BitVec 32 := Scalar.muli v2 c64_i32
  let c0_i32_388 : BitVec 32 := 0#32
  ![v165.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  let c0_i32_389 : BitVec 32 := 0#32
  let c0_i32_390 : BitVec 32 := 0#32
  ![v159.toNat, 0, 0]
def k0_dev16 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  let c1_i32_386 : BitVec 32 := 1#32
  let v622 : BitVec 32 := Scalar.muli v159 c1_i32_386
  let v623 : BitVec 32 := Scalar.addi c0_i32_387 v622
  v623.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  let v169 : BitVec 1 := Scalar.cmpi .eq v159 v2
  let v170 : BitVec 32 := Scalar.extui v169
  let c0_i32_120 : BitVec 32 := 0#32
  let v171 : BitVec 1 := Scalar.cmpi .ne v170 c0_i32_120
  v171

def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  let v622 : Index := Scalar.indexCast v159
  let c0_386 : Index := 0#32
  let c0_387 : Index := 0#32
  ![v622.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  let v180 : BitVec 1 := Scalar.cmpi .ne v173 v2
  let v181 : BitVec 32 := Scalar.extui v180
  let c0_i32_126 : BitVec 32 := 0#32
  let v182 : BitVec 1 := Scalar.cmpi .ne v181 c0_i32_126
  v182

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  ![v173.toNat]
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_125 : BitVec 32 := 64#32
  let v179 : BitVec 32 := Scalar.muli v2 c64_i32_125
  let c0_i32_388 : BitVec 32 := 0#32
  ![v179.toNat, 0]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  let c0_i32_389 : BitVec 32 := 0#32
  let c0_i32_390 : BitVec 32 := 0#32
  ![v173.toNat, 0, 0]
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  let c1_i32_386 : BitVec 32 := 1#32
  let v622 : BitVec 32 := Scalar.muli v173 c1_i32_386
  let v623 : BitVec 32 := Scalar.addi c0_i32_387 v622
  v623.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  let v183 : BitVec 1 := Scalar.cmpi .eq v173 v2
  let v184 : BitVec 32 := Scalar.extui v183
  let c0_i32_127 : BitVec 32 := 0#32
  let v185 : BitVec 1 := Scalar.cmpi .ne v184 c0_i32_127
  v185

def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  let v622 : Index := Scalar.indexCast v173
  let c0_386 : Index := 0#32
  let c0_387 : Index := 0#32
  ![v622.toNat, 0, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  let v194 : BitVec 1 := Scalar.cmpi .ne v187 v2
  let v195 : BitVec 32 := Scalar.extui v194
  let c0_i32_133 : BitVec 32 := 0#32
  let v196 : BitVec 1 := Scalar.cmpi .ne v195 c0_i32_133
  v196

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  ![v187.toNat]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_132 : BitVec 32 := 64#32
  let v193 : BitVec 32 := Scalar.muli v2 c64_i32_132
  let c0_i32_388 : BitVec 32 := 0#32
  ![v193.toNat, 0]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  let c0_i32_389 : BitVec 32 := 0#32
  let c0_i32_390 : BitVec 32 := 0#32
  ![v187.toNat, 0, 0]
def k0_dev18 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  let c1_i32_386 : BitVec 32 := 1#32
  let v622 : BitVec 32 := Scalar.muli v187 c1_i32_386
  let v623 : BitVec 32 := Scalar.addi c0_i32_387 v622
  v623.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  let v197 : BitVec 1 := Scalar.cmpi .eq v187 v2
  let v198 : BitVec 32 := Scalar.extui v197
  let c0_i32_134 : BitVec 32 := 0#32
  let v199 : BitVec 1 := Scalar.cmpi .ne v198 c0_i32_134
  v199

def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  let v622 : Index := Scalar.indexCast v187
  let c0_386 : Index := 0#32
  let c0_387 : Index := 0#32
  ![v622.toNat, 0, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  let v208 : BitVec 1 := Scalar.cmpi .ne v201 v2
  let v209 : BitVec 32 := Scalar.extui v208
  let c0_i32_140 : BitVec 32 := 0#32
  let v210 : BitVec 1 := Scalar.cmpi .ne v209 c0_i32_140
  v210

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  ![v201.toNat]
def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_139 : BitVec 32 := 64#32
  let v207 : BitVec 32 := Scalar.muli v2 c64_i32_139
  let c0_i32_388 : BitVec 32 := 0#32
  ![v207.toNat, 0]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  let c0_i32_389 : BitVec 32 := 0#32
  let c0_i32_390 : BitVec 32 := 0#32
  ![v201.toNat, 0, 0]
def k0_dev19 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  let c1_i32_386 : BitVec 32 := 1#32
  let v622 : BitVec 32 := Scalar.muli v201 c1_i32_386
  let v623 : BitVec 32 := Scalar.addi c0_i32_387 v622
  v623.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  let v211 : BitVec 1 := Scalar.cmpi .eq v201 v2
  let v212 : BitVec 32 := Scalar.extui v211
  let c0_i32_141 : BitVec 32 := 0#32
  let v213 : BitVec 1 := Scalar.cmpi .ne v212 c0_i32_141
  v213

def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  let v622 : Index := Scalar.indexCast v201
  let c0_386 : Index := 0#32
  let c0_387 : Index := 0#32
  ![v622.toNat, 0, 0]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  let v222 : BitVec 1 := Scalar.cmpi .ne v215 v2
  let v223 : BitVec 32 := Scalar.extui v222
  let c0_i32_147 : BitVec 32 := 0#32
  let v224 : BitVec 1 := Scalar.cmpi .ne v223 c0_i32_147
  v224

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  ![v215.toNat]
def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_146 : BitVec 32 := 64#32
  let v221 : BitVec 32 := Scalar.muli v2 c64_i32_146
  let c0_i32_388 : BitVec 32 := 0#32
  ![v221.toNat, 0]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  let c0_i32_389 : BitVec 32 := 0#32
  let c0_i32_390 : BitVec 32 := 0#32
  ![v215.toNat, 0, 0]
def k0_dev20 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  let c1_i32_386 : BitVec 32 := 1#32
  let v622 : BitVec 32 := Scalar.muli v215 c1_i32_386
  let v623 : BitVec 32 := Scalar.addi c0_i32_387 v622
  v623.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  let v225 : BitVec 1 := Scalar.cmpi .eq v215 v2
  let v226 : BitVec 32 := Scalar.extui v225
  let c0_i32_148 : BitVec 32 := 0#32
  let v227 : BitVec 1 := Scalar.cmpi .ne v226 c0_i32_148
  v227

def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  let v622 : Index := Scalar.indexCast v215
  let c0_386 : Index := 0#32
  let c0_387 : Index := 0#32
  ![v622.toNat, 0, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  let v236 : BitVec 1 := Scalar.cmpi .ne v229 v2
  let v237 : BitVec 32 := Scalar.extui v236
  let c0_i32_154 : BitVec 32 := 0#32
  let v238 : BitVec 1 := Scalar.cmpi .ne v237 c0_i32_154
  v238

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  ![v229.toNat]
def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_153 : BitVec 32 := 64#32
  let v235 : BitVec 32 := Scalar.muli v2 c64_i32_153
  let c0_i32_388 : BitVec 32 := 0#32
  ![v235.toNat, 0]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  let c0_i32_389 : BitVec 32 := 0#32
  let c0_i32_390 : BitVec 32 := 0#32
  ![v229.toNat, 0, 0]
def k0_dev21 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  let c1_i32_386 : BitVec 32 := 1#32
  let v622 : BitVec 32 := Scalar.muli v229 c1_i32_386
  let v623 : BitVec 32 := Scalar.addi c0_i32_387 v622
  v623.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  let v239 : BitVec 1 := Scalar.cmpi .eq v229 v2
  let v240 : BitVec 32 := Scalar.extui v239
  let c0_i32_155 : BitVec 32 := 0#32
  let v241 : BitVec 1 := Scalar.cmpi .ne v240 c0_i32_155
  v241

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  let v622 : Index := Scalar.indexCast v229
  let c0_386 : Index := 0#32
  let c0_387 : Index := 0#32
  ![v622.toNat, 0, 0]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  let v250 : BitVec 1 := Scalar.cmpi .ne v243 v2
  let v251 : BitVec 32 := Scalar.extui v250
  let c0_i32_161 : BitVec 32 := 0#32
  let v252 : BitVec 1 := Scalar.cmpi .ne v251 c0_i32_161
  v252

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  ![v243.toNat]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_160 : BitVec 32 := 64#32
  let v249 : BitVec 32 := Scalar.muli v2 c64_i32_160
  let c0_i32_388 : BitVec 32 := 0#32
  ![v249.toNat, 0]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  let c0_i32_389 : BitVec 32 := 0#32
  let c0_i32_390 : BitVec 32 := 0#32
  ![v243.toNat, 0, 0]
def k0_dev22 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  let c1_i32_386 : BitVec 32 := 1#32
  let v622 : BitVec 32 := Scalar.muli v243 c1_i32_386
  let v623 : BitVec 32 := Scalar.addi c0_i32_387 v622
  v623.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  let v253 : BitVec 1 := Scalar.cmpi .eq v243 v2
  let v254 : BitVec 32 := Scalar.extui v253
  let c0_i32_162 : BitVec 32 := 0#32
  let v255 : BitVec 1 := Scalar.cmpi .ne v254 c0_i32_162
  v255

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  let v622 : Index := Scalar.indexCast v243
  let c0_386 : Index := 0#32
  let c0_387 : Index := 0#32
  ![v622.toNat, 0, 0]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  let v264 : BitVec 1 := Scalar.cmpi .ne v257 v2
  let v265 : BitVec 32 := Scalar.extui v264
  let c0_i32_168 : BitVec 32 := 0#32
  let v266 : BitVec 1 := Scalar.cmpi .ne v265 c0_i32_168
  v266

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  ![v257.toNat]
def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_167 : BitVec 32 := 64#32
  let v263 : BitVec 32 := Scalar.muli v2 c64_i32_167
  let c0_i32_388 : BitVec 32 := 0#32
  ![v263.toNat, 0]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  let c0_i32_389 : BitVec 32 := 0#32
  let c0_i32_390 : BitVec 32 := 0#32
  ![v257.toNat, 0, 0]
def k0_dev23 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  let c1_i32_386 : BitVec 32 := 1#32
  let v622 : BitVec 32 := Scalar.muli v257 c1_i32_386
  let v623 : BitVec 32 := Scalar.addi c0_i32_387 v622
  v623.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  let v267 : BitVec 1 := Scalar.cmpi .eq v257 v2
  let v268 : BitVec 32 := Scalar.extui v267
  let c0_i32_169 : BitVec 32 := 0#32
  let v269 : BitVec 1 := Scalar.cmpi .ne v268 c0_i32_169
  v269

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  let v622 : Index := Scalar.indexCast v257
  let c0_386 : Index := 0#32
  let c0_387 : Index := 0#32
  ![v622.toNat, 0, 0]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  let v320 : BitVec 1 := Scalar.cmpi .ne v313 v2
  let v321 : BitVec 32 := Scalar.extui v320
  let c0_i32_199 : BitVec 32 := 0#32
  let v322 : BitVec 1 := Scalar.cmpi .ne v321 c0_i32_199
  v322

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  ![v313.toNat]
def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_198 : BitVec 32 := 64#32
  let v319 : BitVec 32 := Scalar.muli v2 c64_i32_198
  let c0_i32_388 : BitVec 32 := 0#32
  ![v319.toNat, 0]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  let c0_i32_389 : BitVec 32 := 0#32
  let c0_i32_390 : BitVec 32 := 0#32
  ![v313.toNat, 0, 0]
def k0_dev24 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  let c1_i32_386 : BitVec 32 := 1#32
  let v622 : BitVec 32 := Scalar.muli v313 c1_i32_386
  let v623 : BitVec 32 := Scalar.addi c0_i32_387 v622
  v623.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  let v323 : BitVec 1 := Scalar.cmpi .eq v313 v2
  let v324 : BitVec 32 := Scalar.extui v323
  let c0_i32_200 : BitVec 32 := 0#32
  let v325 : BitVec 1 := Scalar.cmpi .ne v324 c0_i32_200
  v325

def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  let v622 : Index := Scalar.indexCast v313
  let c0_386 : Index := 0#32
  let c0_387 : Index := 0#32
  ![v622.toNat, 0, 0]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  let v334 : BitVec 1 := Scalar.cmpi .ne v327 v2
  let v335 : BitVec 32 := Scalar.extui v334
  let c0_i32_206 : BitVec 32 := 0#32
  let v336 : BitVec 1 := Scalar.cmpi .ne v335 c0_i32_206
  v336

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  ![v327.toNat]
def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_205 : BitVec 32 := 64#32
  let v333 : BitVec 32 := Scalar.muli v2 c64_i32_205
  let c0_i32_388 : BitVec 32 := 0#32
  ![v333.toNat, 0]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  let c0_i32_389 : BitVec 32 := 0#32
  let c0_i32_390 : BitVec 32 := 0#32
  ![v327.toNat, 0, 0]
def k0_dev25 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  let c1_i32_386 : BitVec 32 := 1#32
  let v622 : BitVec 32 := Scalar.muli v327 c1_i32_386
  let v623 : BitVec 32 := Scalar.addi c0_i32_387 v622
  v623.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  let v337 : BitVec 1 := Scalar.cmpi .eq v327 v2
  let v338 : BitVec 32 := Scalar.extui v337
  let c0_i32_207 : BitVec 32 := 0#32
  let v339 : BitVec 1 := Scalar.cmpi .ne v338 c0_i32_207
  v339

def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  let v622 : Index := Scalar.indexCast v327
  let c0_386 : Index := 0#32
  let c0_387 : Index := 0#32
  ![v622.toNat, 0, 0]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  let v348 : BitVec 1 := Scalar.cmpi .ne v341 v2
  let v349 : BitVec 32 := Scalar.extui v348
  let c0_i32_213 : BitVec 32 := 0#32
  let v350 : BitVec 1 := Scalar.cmpi .ne v349 c0_i32_213
  v350

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  ![v341.toNat]
def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_212 : BitVec 32 := 64#32
  let v347 : BitVec 32 := Scalar.muli v2 c64_i32_212
  let c0_i32_388 : BitVec 32 := 0#32
  ![v347.toNat, 0]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  let c0_i32_389 : BitVec 32 := 0#32
  let c0_i32_390 : BitVec 32 := 0#32
  ![v341.toNat, 0, 0]
def k0_dev26 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  let c1_i32_386 : BitVec 32 := 1#32
  let v622 : BitVec 32 := Scalar.muli v341 c1_i32_386
  let v623 : BitVec 32 := Scalar.addi c0_i32_387 v622
  v623.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  let v351 : BitVec 1 := Scalar.cmpi .eq v341 v2
  let v352 : BitVec 32 := Scalar.extui v351
  let c0_i32_214 : BitVec 32 := 0#32
  let v353 : BitVec 1 := Scalar.cmpi .ne v352 c0_i32_214
  v353

def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  let v622 : Index := Scalar.indexCast v341
  let c0_386 : Index := 0#32
  let c0_387 : Index := 0#32
  ![v622.toNat, 0, 0]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  let v362 : BitVec 1 := Scalar.cmpi .ne v355 v2
  let v363 : BitVec 32 := Scalar.extui v362
  let c0_i32_220 : BitVec 32 := 0#32
  let v364 : BitVec 1 := Scalar.cmpi .ne v363 c0_i32_220
  v364

def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  ![v355.toNat]
def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_219 : BitVec 32 := 64#32
  let v361 : BitVec 32 := Scalar.muli v2 c64_i32_219
  let c0_i32_388 : BitVec 32 := 0#32
  ![v361.toNat, 0]
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  let c0_i32_389 : BitVec 32 := 0#32
  let c0_i32_390 : BitVec 32 := 0#32
  ![v355.toNat, 0, 0]
def k0_dev27 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  let c1_i32_386 : BitVec 32 := 1#32
  let v622 : BitVec 32 := Scalar.muli v355 c1_i32_386
  let v623 : BitVec 32 := Scalar.addi c0_i32_387 v622
  v623.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  let v365 : BitVec 1 := Scalar.cmpi .eq v355 v2
  let v366 : BitVec 32 := Scalar.extui v365
  let c0_i32_221 : BitVec 32 := 0#32
  let v367 : BitVec 1 := Scalar.cmpi .ne v366 c0_i32_221
  v367

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  let v622 : Index := Scalar.indexCast v355
  let c0_386 : Index := 0#32
  let c0_387 : Index := 0#32
  ![v622.toNat, 0, 0]
def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  let v376 : BitVec 1 := Scalar.cmpi .ne v369 v2
  let v377 : BitVec 32 := Scalar.extui v376
  let c0_i32_227 : BitVec 32 := 0#32
  let v378 : BitVec 1 := Scalar.cmpi .ne v377 c0_i32_227
  v378

def k0_off75 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  ![v369.toNat]
def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_226 : BitVec 32 := 64#32
  let v375 : BitVec 32 := Scalar.muli v2 c64_i32_226
  let c0_i32_388 : BitVec 32 := 0#32
  ![v375.toNat, 0]
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  let c0_i32_389 : BitVec 32 := 0#32
  let c0_i32_390 : BitVec 32 := 0#32
  ![v369.toNat, 0, 0]
def k0_dev28 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  let c1_i32_386 : BitVec 32 := 1#32
  let v622 : BitVec 32 := Scalar.muli v369 c1_i32_386
  let v623 : BitVec 32 := Scalar.addi c0_i32_387 v622
  v623.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  let v379 : BitVec 1 := Scalar.cmpi .eq v369 v2
  let v380 : BitVec 32 := Scalar.extui v379
  let c0_i32_228 : BitVec 32 := 0#32
  let v381 : BitVec 1 := Scalar.cmpi .ne v380 c0_i32_228
  v381

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  let v622 : Index := Scalar.indexCast v369
  let c0_386 : Index := 0#32
  let c0_387 : Index := 0#32
  ![v622.toNat, 0, 0]
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  let v390 : BitVec 1 := Scalar.cmpi .ne v383 v2
  let v391 : BitVec 32 := Scalar.extui v390
  let c0_i32_234 : BitVec 32 := 0#32
  let v392 : BitVec 1 := Scalar.cmpi .ne v391 c0_i32_234
  v392

def k0_off81 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  ![v383.toNat]
def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_233 : BitVec 32 := 64#32
  let v389 : BitVec 32 := Scalar.muli v2 c64_i32_233
  let c0_i32_388 : BitVec 32 := 0#32
  ![v389.toNat, 0]
def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  let c0_i32_389 : BitVec 32 := 0#32
  let c0_i32_390 : BitVec 32 := 0#32
  ![v383.toNat, 0, 0]
def k0_dev29 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  let c1_i32_386 : BitVec 32 := 1#32
  let v622 : BitVec 32 := Scalar.muli v383 c1_i32_386
  let v623 : BitVec 32 := Scalar.addi c0_i32_387 v622
  v623.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  let v393 : BitVec 1 := Scalar.cmpi .eq v383 v2
  let v394 : BitVec 32 := Scalar.extui v393
  let c0_i32_235 : BitVec 32 := 0#32
  let v395 : BitVec 1 := Scalar.cmpi .ne v394 c0_i32_235
  v395

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  let v622 : Index := Scalar.indexCast v383
  let c0_386 : Index := 0#32
  let c0_387 : Index := 0#32
  ![v622.toNat, 0, 0]
def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  let v404 : BitVec 1 := Scalar.cmpi .ne v397 v2
  let v405 : BitVec 32 := Scalar.extui v404
  let c0_i32_241 : BitVec 32 := 0#32
  let v406 : BitVec 1 := Scalar.cmpi .ne v405 c0_i32_241
  v406

def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  ![v397.toNat]
def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_240 : BitVec 32 := 64#32
  let v403 : BitVec 32 := Scalar.muli v2 c64_i32_240
  let c0_i32_388 : BitVec 32 := 0#32
  ![v403.toNat, 0]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  let c0_i32_389 : BitVec 32 := 0#32
  let c0_i32_390 : BitVec 32 := 0#32
  ![v397.toNat, 0, 0]
def k0_dev30 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  let c1_i32_386 : BitVec 32 := 1#32
  let v622 : BitVec 32 := Scalar.muli v397 c1_i32_386
  let v623 : BitVec 32 := Scalar.addi c0_i32_387 v622
  v623.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  let v407 : BitVec 1 := Scalar.cmpi .eq v397 v2
  let v408 : BitVec 32 := Scalar.extui v407
  let c0_i32_242 : BitVec 32 := 0#32
  let v409 : BitVec 1 := Scalar.cmpi .ne v408 c0_i32_242
  v409

def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  let v622 : Index := Scalar.indexCast v397
  let c0_386 : Index := 0#32
  let c0_387 : Index := 0#32
  ![v622.toNat, 0, 0]
def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  let v418 : BitVec 1 := Scalar.cmpi .ne v411 v2
  let v419 : BitVec 32 := Scalar.extui v418
  let c0_i32_248 : BitVec 32 := 0#32
  let v420 : BitVec 1 := Scalar.cmpi .ne v419 c0_i32_248
  v420

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  ![v411.toNat]
def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_247 : BitVec 32 := 64#32
  let v417 : BitVec 32 := Scalar.muli v2 c64_i32_247
  let c0_i32_388 : BitVec 32 := 0#32
  ![v417.toNat, 0]
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  let c0_i32_389 : BitVec 32 := 0#32
  let c0_i32_390 : BitVec 32 := 0#32
  ![v411.toNat, 0, 0]
def k0_dev31 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  let c1_i32_386 : BitVec 32 := 1#32
  let v622 : BitVec 32 := Scalar.muli v411 c1_i32_386
  let v623 : BitVec 32 := Scalar.addi c0_i32_387 v622
  v623.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  let v421 : BitVec 1 := Scalar.cmpi .eq v411 v2
  let v422 : BitVec 32 := Scalar.extui v421
  let c0_i32_249 : BitVec 32 := 0#32
  let v423 : BitVec 1 := Scalar.cmpi .ne v422 c0_i32_249
  v423

def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  let v622 : Index := Scalar.indexCast v411
  let c0_386 : Index := 0#32
  let c0_387 : Index := 0#32
  ![v622.toNat, 0, 0]
def k0_off98 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_388 : BitVec 32 := 64#32
  let v625 : BitVec 32 := Scalar.muli v2 c64_i32_388
  let v626 : Index := Scalar.indexCast v625
  let c0_389 : Index := 0#32
  ![v626.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  let v424 : BitVec 1 := Scalar.cmpi .ne v159 v2
  let v425 : BitVec 32 := Scalar.extui v424
  let c0_i32_250 : BitVec 32 := 0#32
  let v426 : BitVec 1 := Scalar.cmpi .ne v425 c0_i32_250
  v426

def k0_off99 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  ![v159.toNat]
def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_115 : BitVec 32 := 8#32
  let v158 : BitVec 32 := Scalar.muli v157 c8_i32_115
  let c0_i32_116 : BitVec 32 := 0#32
  let v159 : BitVec 32 := Scalar.addi v158 c0_i32_116
  let c0_i32_387 : BitVec 32 := 0#32
  let c0_i32_388 : BitVec 32 := 0#32
  ![v159.toNat, 0, 0]
def k0_off101 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v165 : BitVec 32 := Scalar.muli v2 c64_i32
  let c0_i32_389 : BitVec 32 := 0#32
  ![v165.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  let v427 : BitVec 1 := Scalar.cmpi .ne v173 v2
  let v428 : BitVec 32 := Scalar.extui v427
  let c0_i32_251 : BitVec 32 := 0#32
  let v429 : BitVec 1 := Scalar.cmpi .ne v428 c0_i32_251
  v429

def k0_off102 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  ![v173.toNat]
def k0_off103 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_121 : BitVec 32 := 8#32
  let v172 : BitVec 32 := Scalar.muli v157 c8_i32_121
  let c1_i32_122 : BitVec 32 := 1#32
  let v173 : BitVec 32 := Scalar.addi v172 c1_i32_122
  let c0_i32_387 : BitVec 32 := 0#32
  let c0_i32_388 : BitVec 32 := 0#32
  ![v173.toNat, 0, 0]
def k0_off104 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_125 : BitVec 32 := 64#32
  let v179 : BitVec 32 := Scalar.muli v2 c64_i32_125
  let c0_i32_389 : BitVec 32 := 0#32
  ![v179.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  let v430 : BitVec 1 := Scalar.cmpi .ne v187 v2
  let v431 : BitVec 32 := Scalar.extui v430
  let c0_i32_252 : BitVec 32 := 0#32
  let v432 : BitVec 1 := Scalar.cmpi .ne v431 c0_i32_252
  v432

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  ![v187.toNat]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_128 : BitVec 32 := 8#32
  let v186 : BitVec 32 := Scalar.muli v157 c8_i32_128
  let c2_i32_129 : BitVec 32 := 2#32
  let v187 : BitVec 32 := Scalar.addi v186 c2_i32_129
  let c0_i32_387 : BitVec 32 := 0#32
  let c0_i32_388 : BitVec 32 := 0#32
  ![v187.toNat, 0, 0]
def k0_off107 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_132 : BitVec 32 := 64#32
  let v193 : BitVec 32 := Scalar.muli v2 c64_i32_132
  let c0_i32_389 : BitVec 32 := 0#32
  ![v193.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  let v433 : BitVec 1 := Scalar.cmpi .ne v201 v2
  let v434 : BitVec 32 := Scalar.extui v433
  let c0_i32_253 : BitVec 32 := 0#32
  let v435 : BitVec 1 := Scalar.cmpi .ne v434 c0_i32_253
  v435

def k0_off108 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  ![v201.toNat]
def k0_off109 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_135 : BitVec 32 := 8#32
  let v200 : BitVec 32 := Scalar.muli v157 c8_i32_135
  let c3_i32_136 : BitVec 32 := 3#32
  let v201 : BitVec 32 := Scalar.addi v200 c3_i32_136
  let c0_i32_387 : BitVec 32 := 0#32
  let c0_i32_388 : BitVec 32 := 0#32
  ![v201.toNat, 0, 0]
def k0_off110 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_139 : BitVec 32 := 64#32
  let v207 : BitVec 32 := Scalar.muli v2 c64_i32_139
  let c0_i32_389 : BitVec 32 := 0#32
  ![v207.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  let v436 : BitVec 1 := Scalar.cmpi .ne v215 v2
  let v437 : BitVec 32 := Scalar.extui v436
  let c0_i32_254 : BitVec 32 := 0#32
  let v438 : BitVec 1 := Scalar.cmpi .ne v437 c0_i32_254
  v438

def k0_off111 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  ![v215.toNat]
def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_142 : BitVec 32 := 8#32
  let v214 : BitVec 32 := Scalar.muli v157 c8_i32_142
  let c4_i32_143 : BitVec 32 := 4#32
  let v215 : BitVec 32 := Scalar.addi v214 c4_i32_143
  let c0_i32_387 : BitVec 32 := 0#32
  let c0_i32_388 : BitVec 32 := 0#32
  ![v215.toNat, 0, 0]
def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_146 : BitVec 32 := 64#32
  let v221 : BitVec 32 := Scalar.muli v2 c64_i32_146
  let c0_i32_389 : BitVec 32 := 0#32
  ![v221.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  let v439 : BitVec 1 := Scalar.cmpi .ne v229 v2
  let v440 : BitVec 32 := Scalar.extui v439
  let c0_i32_255 : BitVec 32 := 0#32
  let v441 : BitVec 1 := Scalar.cmpi .ne v440 c0_i32_255
  v441

def k0_off114 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  ![v229.toNat]
def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_149 : BitVec 32 := 8#32
  let v228 : BitVec 32 := Scalar.muli v157 c8_i32_149
  let c5_i32_150 : BitVec 32 := 5#32
  let v229 : BitVec 32 := Scalar.addi v228 c5_i32_150
  let c0_i32_387 : BitVec 32 := 0#32
  let c0_i32_388 : BitVec 32 := 0#32
  ![v229.toNat, 0, 0]
def k0_off116 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_153 : BitVec 32 := 64#32
  let v235 : BitVec 32 := Scalar.muli v2 c64_i32_153
  let c0_i32_389 : BitVec 32 := 0#32
  ![v235.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  let v442 : BitVec 1 := Scalar.cmpi .ne v243 v2
  let v443 : BitVec 32 := Scalar.extui v442
  let c0_i32_256 : BitVec 32 := 0#32
  let v444 : BitVec 1 := Scalar.cmpi .ne v443 c0_i32_256
  v444

def k0_off117 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  ![v243.toNat]
def k0_off118 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_156 : BitVec 32 := 8#32
  let v242 : BitVec 32 := Scalar.muli v157 c8_i32_156
  let c6_i32_157 : BitVec 32 := 6#32
  let v243 : BitVec 32 := Scalar.addi v242 c6_i32_157
  let c0_i32_387 : BitVec 32 := 0#32
  let c0_i32_388 : BitVec 32 := 0#32
  ![v243.toNat, 0, 0]
def k0_off119 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_160 : BitVec 32 := 64#32
  let v249 : BitVec 32 := Scalar.muli v2 c64_i32_160
  let c0_i32_389 : BitVec 32 := 0#32
  ![v249.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  let v445 : BitVec 1 := Scalar.cmpi .ne v257 v2
  let v446 : BitVec 32 := Scalar.extui v445
  let c0_i32_257 : BitVec 32 := 0#32
  let v447 : BitVec 1 := Scalar.cmpi .ne v446 c0_i32_257
  v447

def k0_off120 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  ![v257.toNat]
def k0_off121 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let v139 : BitVec 1 := Scalar.cmpi .sgt v2 c0_i32_106
  let v140 : BitVec 32 := Scalar.extui v139
  let c0_i32_107 : BitVec 32 := 0#32
  let v141 : BitVec 1 := Scalar.cmpi .slt v2 c0_i32_107
  let v142 : BitVec 32 := Scalar.extui v141
  let v143 : BitVec 32 := Scalar.subi v140 v142
  let c8_i32_105 : BitVec 32 := 8#32
  let c0_i32_108 : BitVec 32 := 0#32
  let v144 : BitVec 1 := Scalar.cmpi .sgt c8_i32_105 c0_i32_108
  let v145 : BitVec 32 := Scalar.extui v144
  let c0_i32_109 : BitVec 32 := 0#32
  let v146 : BitVec 1 := Scalar.cmpi .slt c8_i32_105 c0_i32_109
  let v147 : BitVec 32 := Scalar.extui v146
  let v148 : BitVec 32 := Scalar.subi v145 v147
  let v149 : BitVec 1 := Scalar.cmpi .ne v143 v148
  let v150 : BitVec 32 := Scalar.remsi v2 c8_i32_105
  let c0_i32_110 : BitVec 32 := 0#32
  let v151 : BitVec 1 := Scalar.cmpi .ne v150 c0_i32_110
  let v152 : BitVec 1 := Scalar.andi v149 v151
  let v138 : BitVec 32 := Scalar.divsi v2 c8_i32_105
  let c1_i32_111 : BitVec 32 := 1#32
  let v153 : BitVec 32 := Scalar.subi v138 c1_i32_111
  let v154 : BitVec 32 := Scalar.select v152 v153 v138
  let c1_i32_112 : BitVec 32 := 1#32
  let v155 : BitVec 32 := Scalar.addi v154 c1_i32_112
  let c0_i32_113 : BitVec 32 := 0#32
  let v156 : BitVec 32 := Scalar.addi v155 c0_i32_113
  let c2_i32_114 : BitVec 32 := 2#32
  let v157 : BitVec 32 := Scalar.remsi v156 c2_i32_114
  let c8_i32_163 : BitVec 32 := 8#32
  let v256 : BitVec 32 := Scalar.muli v157 c8_i32_163
  let c7_i32_164 : BitVec 32 := 7#32
  let v257 : BitVec 32 := Scalar.addi v256 c7_i32_164
  let c0_i32_387 : BitVec 32 := 0#32
  let c0_i32_388 : BitVec 32 := 0#32
  ![v257.toNat, 0, 0]
def k0_off122 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_167 : BitVec 32 := 64#32
  let v263 : BitVec 32 := Scalar.muli v2 c64_i32_167
  let c0_i32_389 : BitVec 32 := 0#32
  ![v263.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  let v448 : BitVec 1 := Scalar.cmpi .ne v313 v2
  let v449 : BitVec 32 := Scalar.extui v448
  let c0_i32_258 : BitVec 32 := 0#32
  let v450 : BitVec 1 := Scalar.cmpi .ne v449 c0_i32_258
  v450

def k0_off123 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  ![v313.toNat]
def k0_off124 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_194 : BitVec 32 := 8#32
  let v312 : BitVec 32 := Scalar.muli v311 c8_i32_194
  let c0_i32_195 : BitVec 32 := 0#32
  let v313 : BitVec 32 := Scalar.addi v312 c0_i32_195
  let c0_i32_387 : BitVec 32 := 0#32
  let c0_i32_388 : BitVec 32 := 0#32
  ![v313.toNat, 0, 0]
def k0_off125 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_198 : BitVec 32 := 64#32
  let v319 : BitVec 32 := Scalar.muli v2 c64_i32_198
  let c0_i32_389 : BitVec 32 := 0#32
  ![v319.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  let v451 : BitVec 1 := Scalar.cmpi .ne v327 v2
  let v452 : BitVec 32 := Scalar.extui v451
  let c0_i32_259 : BitVec 32 := 0#32
  let v453 : BitVec 1 := Scalar.cmpi .ne v452 c0_i32_259
  v453

def k0_off126 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  ![v327.toNat]
def k0_off127 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_201 : BitVec 32 := 8#32
  let v326 : BitVec 32 := Scalar.muli v311 c8_i32_201
  let c1_i32_202 : BitVec 32 := 1#32
  let v327 : BitVec 32 := Scalar.addi v326 c1_i32_202
  let c0_i32_387 : BitVec 32 := 0#32
  let c0_i32_388 : BitVec 32 := 0#32
  ![v327.toNat, 0, 0]
def k0_off128 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_205 : BitVec 32 := 64#32
  let v333 : BitVec 32 := Scalar.muli v2 c64_i32_205
  let c0_i32_389 : BitVec 32 := 0#32
  ![v333.toNat, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  let v454 : BitVec 1 := Scalar.cmpi .ne v341 v2
  let v455 : BitVec 32 := Scalar.extui v454
  let c0_i32_260 : BitVec 32 := 0#32
  let v456 : BitVec 1 := Scalar.cmpi .ne v455 c0_i32_260
  v456

def k0_off129 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  ![v341.toNat]
def k0_off130 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_208 : BitVec 32 := 8#32
  let v340 : BitVec 32 := Scalar.muli v311 c8_i32_208
  let c2_i32_209 : BitVec 32 := 2#32
  let v341 : BitVec 32 := Scalar.addi v340 c2_i32_209
  let c0_i32_387 : BitVec 32 := 0#32
  let c0_i32_388 : BitVec 32 := 0#32
  ![v341.toNat, 0, 0]
def k0_off131 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_212 : BitVec 32 := 64#32
  let v347 : BitVec 32 := Scalar.muli v2 c64_i32_212
  let c0_i32_389 : BitVec 32 := 0#32
  ![v347.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  let v457 : BitVec 1 := Scalar.cmpi .ne v355 v2
  let v458 : BitVec 32 := Scalar.extui v457
  let c0_i32_261 : BitVec 32 := 0#32
  let v459 : BitVec 1 := Scalar.cmpi .ne v458 c0_i32_261
  v459

def k0_off132 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  ![v355.toNat]
def k0_off133 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_215 : BitVec 32 := 8#32
  let v354 : BitVec 32 := Scalar.muli v311 c8_i32_215
  let c3_i32_216 : BitVec 32 := 3#32
  let v355 : BitVec 32 := Scalar.addi v354 c3_i32_216
  let c0_i32_387 : BitVec 32 := 0#32
  let c0_i32_388 : BitVec 32 := 0#32
  ![v355.toNat, 0, 0]
def k0_off134 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_219 : BitVec 32 := 64#32
  let v361 : BitVec 32 := Scalar.muli v2 c64_i32_219
  let c0_i32_389 : BitVec 32 := 0#32
  ![v361.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  let v460 : BitVec 1 := Scalar.cmpi .ne v369 v2
  let v461 : BitVec 32 := Scalar.extui v460
  let c0_i32_262 : BitVec 32 := 0#32
  let v462 : BitVec 1 := Scalar.cmpi .ne v461 c0_i32_262
  v462

def k0_off135 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  ![v369.toNat]
def k0_off136 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_222 : BitVec 32 := 8#32
  let v368 : BitVec 32 := Scalar.muli v311 c8_i32_222
  let c4_i32_223 : BitVec 32 := 4#32
  let v369 : BitVec 32 := Scalar.addi v368 c4_i32_223
  let c0_i32_387 : BitVec 32 := 0#32
  let c0_i32_388 : BitVec 32 := 0#32
  ![v369.toNat, 0, 0]
def k0_off137 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_226 : BitVec 32 := 64#32
  let v375 : BitVec 32 := Scalar.muli v2 c64_i32_226
  let c0_i32_389 : BitVec 32 := 0#32
  ![v375.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  let v463 : BitVec 1 := Scalar.cmpi .ne v383 v2
  let v464 : BitVec 32 := Scalar.extui v463
  let c0_i32_263 : BitVec 32 := 0#32
  let v465 : BitVec 1 := Scalar.cmpi .ne v464 c0_i32_263
  v465

def k0_off138 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  ![v383.toNat]
def k0_off139 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_229 : BitVec 32 := 8#32
  let v382 : BitVec 32 := Scalar.muli v311 c8_i32_229
  let c5_i32_230 : BitVec 32 := 5#32
  let v383 : BitVec 32 := Scalar.addi v382 c5_i32_230
  let c0_i32_387 : BitVec 32 := 0#32
  let c0_i32_388 : BitVec 32 := 0#32
  ![v383.toNat, 0, 0]
def k0_off140 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_233 : BitVec 32 := 64#32
  let v389 : BitVec 32 := Scalar.muli v2 c64_i32_233
  let c0_i32_389 : BitVec 32 := 0#32
  ![v389.toNat, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  let v466 : BitVec 1 := Scalar.cmpi .ne v397 v2
  let v467 : BitVec 32 := Scalar.extui v466
  let c0_i32_264 : BitVec 32 := 0#32
  let v468 : BitVec 1 := Scalar.cmpi .ne v467 c0_i32_264
  v468

def k0_off141 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  ![v397.toNat]
def k0_off142 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_236 : BitVec 32 := 8#32
  let v396 : BitVec 32 := Scalar.muli v311 c8_i32_236
  let c6_i32_237 : BitVec 32 := 6#32
  let v397 : BitVec 32 := Scalar.addi v396 c6_i32_237
  let c0_i32_387 : BitVec 32 := 0#32
  let c0_i32_388 : BitVec 32 := 0#32
  ![v397.toNat, 0, 0]
def k0_off143 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_240 : BitVec 32 := 64#32
  let v403 : BitVec 32 := Scalar.muli v2 c64_i32_240
  let c0_i32_389 : BitVec 32 := 0#32
  ![v403.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  let v469 : BitVec 1 := Scalar.cmpi .ne v411 v2
  let v470 : BitVec 32 := Scalar.extui v469
  let c0_i32_265 : BitVec 32 := 0#32
  let v471 : BitVec 1 := Scalar.cmpi .ne v470 c0_i32_265
  v471

def k0_off144 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  ![v411.toNat]
def k0_off145 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_185 : BitVec 32 := 0#32
  let v293 : BitVec 1 := Scalar.cmpi .sgt v2 c0_i32_185
  let v294 : BitVec 32 := Scalar.extui v293
  let c0_i32_186 : BitVec 32 := 0#32
  let v295 : BitVec 1 := Scalar.cmpi .slt v2 c0_i32_186
  let v296 : BitVec 32 := Scalar.extui v295
  let v297 : BitVec 32 := Scalar.subi v294 v296
  let c8_i32_184 : BitVec 32 := 8#32
  let c0_i32_187 : BitVec 32 := 0#32
  let v298 : BitVec 1 := Scalar.cmpi .sgt c8_i32_184 c0_i32_187
  let v299 : BitVec 32 := Scalar.extui v298
  let c0_i32_188 : BitVec 32 := 0#32
  let v300 : BitVec 1 := Scalar.cmpi .slt c8_i32_184 c0_i32_188
  let v301 : BitVec 32 := Scalar.extui v300
  let v302 : BitVec 32 := Scalar.subi v299 v301
  let v303 : BitVec 1 := Scalar.cmpi .ne v297 v302
  let v304 : BitVec 32 := Scalar.remsi v2 c8_i32_184
  let c0_i32_189 : BitVec 32 := 0#32
  let v305 : BitVec 1 := Scalar.cmpi .ne v304 c0_i32_189
  let v306 : BitVec 1 := Scalar.andi v303 v305
  let v292 : BitVec 32 := Scalar.divsi v2 c8_i32_184
  let c1_i32_190 : BitVec 32 := 1#32
  let v307 : BitVec 32 := Scalar.subi v292 c1_i32_190
  let v308 : BitVec 32 := Scalar.select v306 v307 v292
  let c1_i32_191 : BitVec 32 := 1#32
  let v309 : BitVec 32 := Scalar.addi v308 c1_i32_191
  let c1_i32_192 : BitVec 32 := 1#32
  let v310 : BitVec 32 := Scalar.addi v309 c1_i32_192
  let c2_i32_193 : BitVec 32 := 2#32
  let v311 : BitVec 32 := Scalar.remsi v310 c2_i32_193
  let c8_i32_243 : BitVec 32 := 8#32
  let v410 : BitVec 32 := Scalar.muli v311 c8_i32_243
  let c7_i32_244 : BitVec 32 := 7#32
  let v411 : BitVec 32 := Scalar.addi v410 c7_i32_244
  let c0_i32_387 : BitVec 32 := 0#32
  let c0_i32_388 : BitVec 32 := 0#32
  ![v411.toNat, 0, 0]
def k0_off146 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_247 : BitVec 32 := 64#32
  let v417 : BitVec 32 := Scalar.muli v2 c64_i32_247
  let c0_i32_389 : BitVec 32 := 0#32
  ![v417.toNat, 0]
def k0_off147 (d0 : Dev nD) (c1_i32_266 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v472 : BitVec 32 := Scalar.addi v2 c1_i32_266
  let c16_i32_267 : BitVec 32 := 16#32
  let v473 : BitVec 32 := Scalar.remsi v472 c16_i32_267
  ![v473.toNat]
def k0_off148 (d0 : Dev nD) (c1_i32_266 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v472 : BitVec 32 := Scalar.addi v2 c1_i32_266
  let c16_i32_267 : BitVec 32 := 16#32
  let v473 : BitVec 32 := Scalar.remsi v472 c16_i32_267
  let c64_i32_268 : BitVec 32 := 64#32
  let v474 : BitVec 32 := Scalar.muli v473 c64_i32_268
  let c0_i32_271 : BitVec 32 := 0#32
  ![v474.toNat, 0]
def k0_off149 (d0 : Dev nD) (c1_i32_266 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v472 : BitVec 32 := Scalar.addi v2 c1_i32_266
  let c16_i32_267 : BitVec 32 := 16#32
  let v473 : BitVec 32 := Scalar.remsi v472 c16_i32_267
  let c0_i32_272 : BitVec 32 := 0#32
  let c0_i32_273 : BitVec 32 := 0#32
  ![v473.toNat, 0, 0]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdealSched.lean ====
/-
# `KernelIdealSched`: the protocol of the kernel

Sixteen devices exchange 64 x 64 blocks, each device sending one block to every other one. This module names the
buffers' parts and the semaphores, writes down the values the blocks hold, and states the protocol: which contribution
each semaphore receives, of what amount, and what memory it hands over.

* The barrier semaphore of device `c` receives one unit from every other device `d`; with it `d` hands over the rows
  of its own result buffer into which `c` is going to write.
* The receive semaphore `s` of device `c` receives the credit of one block from device `s`, with the rows `s` of `c`'s
  result buffer holding the block.
* The send semaphore `t` of device `c` receives the same credit when the block for device `t` has been read, and hands
  the slot it was read from back.
* The three semaphores of the local copies receive the credit of what is copied, with the copy.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's share of the ghost state: rounds whose contributions are named by devices. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, all counters zero. -/
def s₀ : MemSt nD τ sig (Elt F) := ⟨m, fun _ => 0, ρ⟩

/-! ## The devices each device addresses, in program order -/

set_option backward.proofsInPublic true in
/-- The device whose barrier the `d`-th signal of device `c` raises, and whose block the `d`-th receive awaits. -/
def fwd (c : Dev nD) (d : ℕ) : Dev nD := ⟨(c.val + d) % 16, Nat.mod_lt _ (by decide)⟩

set_option backward.proofsInPublic true in
/-- The device for which step `i` of device `c` computes the block: first the eight devices of the other half, then the
    eight of its own. -/
def tgt (c : Dev nD) (i : ℕ) : Dev nD := ⟨((c.val / 8 + 1 + i / 8) % 2) * 8 + i % 8, by show _ < 16; omega⟩

/-! ## The parts of the buffers -/

theorem slot_inb : ∀ (t : Dev nD) (a : Fin 3), (![t.val, 0, 0] : Fin 3 → ℕ) a + S1x64x64.size a ≤ S16x64x64.size a := by decide
theorem rows_inb : ∀ (s : Dev nD) (a : Fin 2), (![64 * s.val, 0] : Fin 2 → ℕ) a + S64x64.size a ≤ S1024x64.size a := by decide
theorem half_inb : ∀ (b : Fin 2) (a : Fin 3), (![b.val, 0, 0] : Fin 3 → ℕ) a + S1x1024x512.size a ≤ S2x1024x512.size a := by decide

/-- The offset of the half of the weights that device `c` copies into part `b`. -/
def colOff (c : Dev nD) (b : Fin 2) : Fin 2 → ℕ := ![0, 512 * ((c.val / 8 + 1 + b.val) % 2)]
theorem cols_inb : ∀ (c : Dev nD) (b : Fin 2) (a : Fin 2), colOff c b a + S1024x512.size a ≤ S1024x1024.size a := by decide

abbrev xA : Memref sig .tc .hbm S64x1024 .f32 := Memref.whole main_arg0
abbrev wA : Memref sig .tc .hbm S1024x1024 .f32 := Memref.whole main_arg1
abbrev oM : Memref sig .tc .vmem S1024x64 .f32 := Memref.whole cc0_stg0_0
abbrev xM : Memref sig .tc .vmem S64x1024 .f32 := Memref.whole cc0_scratch0
abbrev wM : Memref sig .tc .vmem S2x1024x512 .f32 := Memref.whole cc0_scratch1
abbrev sM : Memref sig .tc .vmem S16x64x64 .f32 := Memref.whole cc0_scratch2

/-- Slot `t` of the buffer of blocks to send. -/
abbrev slotM (t : Dev nD) : Memref sig .tc .vmem S64x64 .f32 :=
  (sM.slice (Rect.unit (s := S16x64x64) ![t.val, 0, 0] S1x64x64.size (slot_inb t)) (fun _ => rfl)).squeeze S64x64 squeezes_S1x64x64_S64x64
/-- The 64 rows of the result buffer that hold the block of device `s`. -/
abbrev rowsM (s : Dev nD) : Memref sig .tc .vmem S64x64 .f32 :=
  oM.slice (Rect.unit (s := S1024x64) ![64 * s.val, 0] S64x64.size (rows_inb s)) (fun _ => rfl)
/-- Part `b` of the buffer the weights are copied into. -/
abbrev halfM (b : Fin 2) : Memref sig .tc .vmem S1024x512 .f32 :=
  (wM.slice (Rect.unit (s := S2x1024x512) ![b.val, 0, 0] S1x1024x512.size (half_inb b)) (fun _ => rfl)).squeeze S1024x512 squeezes_S1x1024x512_S1024x512
/-- The half of the weights that goes there on device `c`. -/
abbrev colsA (c : Dev nD) (b : Fin 2) : Memref sig .tc .hbm S1024x512 .f32 :=
  wA.slice (Rect.unit (s := S1024x1024) (colOff c b) S1024x512.size (cols_inb c b)) (fun _ => rfl)

/-! ## The semaphores -/

/-- The runtime's barrier semaphore of this kernel. -/
abbrev barS : Sem sig := (SemArray.scalar (sig.barrier 0 rfl) : Sems sig S_).sem

set_option backward.proofsInPublic true in
abbrev wgtS (b : Fin 2) : DmaSem sig := ⟨b.val + 1, by show _ < 36; omega⟩
abbrev actS : DmaSem sig := ⟨3, by decide⟩
set_option backward.proofsInPublic true in
abbrev sndS (t : Dev nD) : DmaSem sig := ⟨t.val + 4, by have : t.val < 16 := t.isLt; show _ < 36; omega⟩
set_option backward.proofsInPublic true in
abbrev rcvS (s : Dev nD) : DmaSem sig := ⟨s.val + 20, by have : s.val < 16 := s.isLt; show _ < 36; omega⟩

theorem wgtS_eq : ∀ b : Fin 2, ((cc0_scratch4.slice (Rect.unit (s := S2) ![b.val] S1.size (by revert b; decide))).squeeze S_ squeezes_S1_S_ : DmaSems sig S_).sem = wgtS b := by decide
theorem actS_eq : (cc0_scratch5 : DmaSems sig S_).sem = actS := by decide
theorem sem_inb : ∀ (t : Dev nD) (a : Fin 1), (![t.val] : Fin 1 → ℕ) a + S1.size a ≤ S16.size a := by decide
theorem sndS_eq : ∀ t : Dev nD, ((cc0_scratch6.slice (Rect.unit (s := S16) ![t.val] S1.size (sem_inb t))).squeeze S_ squeezes_S1_S_ : DmaSems sig S_).sem = sndS t := by decide
theorem rcvS_eq : ∀ t : Dev nD, ((cc0_scratch7.slice (Rect.unit (s := S16) ![t.val] S1.size (sem_inb t))).squeeze S_ squeezes_S1_S_ : DmaSems sig S_).sem = rcvS t := by decide

abbrev barCell (c : Dev nD) : GSem nD τ sig := ((c : Thread nD τ), .reg barS)
abbrev dmaCell (c : Dev nD) (q : DmaSem sig) : GSem nD τ sig := ((c : Thread nD τ), .dma q)

/-- The credit of one block, of the activations, of half the weights. -/
abbrev nBlk : ℕ := (rowsM 0).view.dmaCredit
abbrev nAct : ℕ := xM.view.dmaCredit
abbrev nWgt : ℕ := (halfM 0).view.dmaCredit

theorem credit_rows (s : Dev nD) : (rowsM s).view.dmaCredit = nBlk := rfl
theorem credit_slot (s : Dev nD) : (slotM s).view.dmaCredit = nBlk := rfl
theorem credit_half (b : Fin 2) : (halfM b).view.dmaCredit = nWgt := rfl

/-! ## The values -/

/-- The activation applied to a product: half the product, times one more than the hyperbolic tangent. -/
def gelu (x : Vec F S64x1024 .f32) (w : Vec F S1024x512 .f32) : FVec F S64x512 .f32 :=
  have y : FVec F S64x512 .f32 := matmul dot_S64x1024_S1024x512_S64x512_1_0_0_1_n_n none x w (constant S64x512 .f32 0x00000000#32)
  mulf (mulf (broadcast S64x512 (Scalar.ofBits .f32 0x3F000000#32)) y)
    (addf (broadcast S64x512 (Scalar.ofBits .f32 0x3F800000#32))
      (tanh (mulf (broadcast S64x512 (Scalar.ofBits .f32 0x3F4C422A#32))
        (addf y (mulf (mulf (mulf (broadcast S64x512 (Scalar.ofBits .f32 0x3D372713#32)) y) y) y)))))

/-- The activations of device `c`, and the half of the weights it copies to part `b`. -/
def xV (c : Dev nD) : Vec F S64x1024 .f32 := xA.view.read (Elt F) (m ((c : Thread nD τ).loc main_arg0))
def wV (c : Dev nD) (b : Fin 2) : Vec F S1024x512 .f32 := (colsA c b).view.read (Elt F) (m ((c : Thread nD τ).loc main_arg1))

theorem cut_slices : ∀ t : Fin 8, S64x512.Slices ![0, 64 * t.val] S64x64 := by decide

/-- The `t`-th of the eight blocks of columns. -/
def cut (t : Fin 8) (y : FVec F S64x512 .f32) : FVec F S64x64 .f32 :=
  extractStridedSlice S64x64 ![0, 64 * t.val] y (cut_slices t)

set_option backward.proofsInPublic true in
/-- The block device `c` computes in step `i`. -/
def blk (c : Dev nD) (i : ℕ) : FVec F S64x64 .f32 :=
  cut ⟨i % 8, Nat.mod_lt _ (by decide)⟩ (gelu (xV m c) (wV m c ⟨i / 8 % 2, Nat.mod_lt _ (by decide)⟩))

/-- The step in which device `c` computes the block for device `t`. -/
def stepOf (c t : Dev nD) : ℕ := ((t.val / 8 + c.val / 8 + 1) % 2) * 8 + t.val % 8

theorem stepOf_tgt : ∀ c : Dev nD, ∀ i ∈ Finset.Ico 0 16, stepOf c (tgt c i) = i := by decide +kernel
theorem tgt_stepOf : ∀ c t : Dev nD, tgt c (stepOf c t) = t := by decide +kernel
theorem stepOf_lt : ∀ c t : Dev nD, stepOf c t < 16 := by decide +kernel

/-! ## The protocol -/

/-- Device `c` holds the memory under a view, whatever it contains. -/
def held (c : Dev nD) {sp : Space} {s : Shape} {e : EltTy} (M : Memref sig .tc sp s e) : sProp 𝕄 :=
  iprop(∃ X, owns (c : Thread nD τ) M fullShare X)

omit [FloatOps F] in
instance held_storable (c : Dev nD) {sp : Space} {s : Shape} {e : EltTy} (M : Memref sig .tc sp s e) :
    BI.Storable (upEmb : UEmb _ 𝕄) (held (F := F) c M) := by unfold held; infer_instance

/-- What device `d`'s signal hands device `c`: the rows of `d`'s result that `c` writes. -/
def barPay (c d : Dev nD) : sProp 𝕄 := held d (rowsM c)
/-- What arrives with the block of device `s` on device `c`: the rows holding it. -/
def rcvPay (c s : Dev nD) : sProp 𝕄 := owns (c : Thread nD τ) (rowsM s) fullShare (blk m s (stepOf s c))
/-- What comes back when the block for device `t` has left: its slot. -/
def sndPay (c t : Dev nD) : sProp 𝕄 := held c (slotM t)
/-- What the copy of the activations, or of half `b` of the weights, leaves. -/
def actPay (c : Dev nD) : sProp 𝕄 := owns (c : Thread nD τ) xM fullShare (xV m c)
def wgtPay (c : Dev nD) (b : Fin 2) : sProp 𝕄 := owns (c : Thread nD τ) (halfM b) fullShare (wV m c b)

/-- The one contribution of a transfer's semaphore, at round 0; a device sends itself nothing. -/
def dutyOf (c : Dev nD) (q : DmaSem sig) : Finset (Dev nD) :=
  if q.val = 0 ∨ q.val = c.val + 4 ∨ q.val = c.val + 20 then ∅ else {0}

def amountOf (q : DmaSem sig) : ℕ := if q.val < 3 then nWgt else if q.val = 3 then nAct else nBlk

set_option backward.proofsInPublic true in
def payOf (c : Dev nD) (q : DmaSem sig) : sProp 𝕄 :=
  if h : q.val < 3 then wgtPay m c ⟨(q.val + 1) % 2, Nat.mod_lt _ (by decide)⟩
  else if q.val = 3 then actPay m c
  else if h : q.val < 20 then sndPay c ⟨(q.val - 4) % 16, Nat.mod_lt _ (by decide)⟩
  else rcvPay m c ⟨(q.val - 20) % 16, Nat.mod_lt _ (by decide)⟩

theorem nBlk_pos : 0 < nBlk := View.dmaCredit_pos _ (by decide)
theorem nAct_pos : 0 < nAct := View.dmaCredit_pos _ (by decide)
theorem nWgt_pos : 0 < nWgt := View.dmaCredit_pos _ (by decide)

def exch : Rounds.Schedule (GSem nD τ sig) (Dev nD) 𝕄 where
  duties g r := if r = 0 ∧ g.1.2 = .tc then (match g.2 with | .reg _ => Finset.univ.erase g.1.1 | .dma q => dutyOf g.1.1 q) else ∅
  unitless _ := False
  amount g _ _ := match g.2 with | .reg _ => 1 | .dma q => amountOf q
  payload g _ d := match g.2 with | .reg _ => barPay g.1.1 d | .dma q => payOf m g.1.1 q
  amount_pos g _ _ _ := by
    show 0 < (match g.2 with | .reg _ => 1 | .dma q => amountOf q)
    split
    · exact Nat.one_pos
    · unfold amountOf; (repeat' split) <;> first | exact nWgt_pos | exact nAct_pos | exact nBlk_pos

instance payOf_storable (c : Dev nD) (q : DmaSem sig) : BI.Storable (upEmb : UEmb _ 𝕄) (payOf (F := F) m c q) := by
  unfold payOf wgtPay actPay sndPay rcvPay
  (repeat' split) <;> infer_instance

instance exch_payload_storable (g : GSem nD τ sig) (r : ℕ) (d : Dev nD) :
    BI.Storable (upEmb : UEmb _ 𝕄) ((exch (F := F) m).payload g r d) := by
  show BI.Storable upEmb (match g.2 with | .reg _ => barPay g.1.1 d | .dma q => payOf m g.1.1 q)
  split
  · unfold barPay; infer_instance
  · infer_instance

section Facts
variable (c : Dev nD)

theorem duties_bar : (exch (F := F) m).duties (barCell c) 0 = Finset.univ.erase c := by
  dsimp only [exch]; rw [if_pos ⟨rfl, rfl⟩]
theorem duties_dma (q : DmaSem sig) : (exch (F := F) m).duties (dmaCell c q) 0 = dutyOf c q := by
  dsimp only [exch]; rw [if_pos ⟨rfl, rfl⟩]
theorem duties_later (g : GSem nD τ sig) : ∀ r, 1 ≤ r → (exch (F := F) m).duties g r = ∅ := fun r hr => if_neg fun h => by omega

theorem duty_wgt (b : Fin 2) : dutyOf c (wgtS b) = {0} := by
  unfold dutyOf; rw [if_neg]; have : b.val < 2 := b.isLt; show ¬(b.val + 1 = 0 ∨ b.val + 1 = c.val + 4 ∨ b.val + 1 = c.val + 20); omega
theorem duty_act : dutyOf c actS = {0} := by
  unfold dutyOf; rw [if_neg]; show ¬(3 = 0 ∨ 3 = c.val + 4 ∨ 3 = c.val + 20); omega
theorem duty_snd {t : Dev nD} (h : t ≠ c) : dutyOf c (sndS t) = {0} := by
  have ht : t.val < 16 := t.isLt; have hc : c.val < 16 := c.isLt; have hn : t.val ≠ c.val := fun e => h (Fin.ext e)
  unfold dutyOf; rw [if_neg]; show ¬(t.val + 4 = 0 ∨ t.val + 4 = c.val + 4 ∨ t.val + 4 = c.val + 20); omega
theorem duty_rcv {s : Dev nD} (h : s ≠ c) : dutyOf c (rcvS s) = {0} := by
  have hs : s.val < 16 := s.isLt; have hc : c.val < 16 := c.isLt; have hn : s.val ≠ c.val := fun e => h (Fin.ext e)
  unfold dutyOf; rw [if_neg]; show ¬(s.val + 20 = 0 ∨ s.val + 20 = c.val + 4 ∨ s.val + 20 = c.val + 20); omega
theorem duty_snd_self : dutyOf c (sndS c) = ∅ := if_pos (.inr (.inl rfl))
theorem duty_rcv_self : dutyOf c (rcvS c) = ∅ := if_pos (.inr (.inr rfl))

theorem amount_wgt (b : Fin 2) : amountOf (wgtS b) = nWgt := if_pos (by have : b.val < 2 := b.isLt; show b.val + 1 < 3; omega)
theorem amount_act : amountOf actS = nAct := rfl
theorem amount_snd (t : Dev nD) : amountOf (sndS t) = nBlk := by
  unfold amountOf; rw [if_neg (show ¬ t.val + 4 < 3 by omega)]; exact if_neg (show ¬ t.val + 4 = 3 by omega)
theorem amount_rcv (s : Dev nD) : amountOf (rcvS s) = nBlk := by
  unfold amountOf; rw [if_neg (show ¬ s.val + 20 < 3 by omega)]; exact if_neg (show ¬ s.val + 20 = 3 by omega)

theorem pay_wgt (b : Fin 2) : payOf (F := F) m c (wgtS b) = wgtPay m c b := by
  unfold payOf; rw [dif_pos (show b.val + 1 < 3 by omega)]
  congr 1; exact Fin.ext (show (b.val + 1 + 1) % 2 = b.val by omega)
theorem pay_act : payOf (F := F) m c actS = actPay m c := by
  unfold payOf; rw [dif_neg (show ¬ 3 < 3 by omega)]; exact if_pos rfl
theorem pay_snd (t : Dev nD) : payOf (F := F) m c (sndS t) = sndPay c t := by
  have ht : t.val < 16 := t.isLt
  unfold payOf; rw [dif_neg (show ¬ t.val + 4 < 3 by omega), if_neg (show ¬ t.val + 4 = 3 by omega), dif_pos (show t.val + 4 < 20 by omega)]
  congr 1; exact Fin.ext (show (t.val + 4 - 4) % 16 = t.val by omega)
theorem pay_rcv (s : Dev nD) : payOf (F := F) m c (rcvS s) = rcvPay m c s := by
  have hs : s.val < 16 := s.isLt
  unfold payOf; rw [dif_neg (show ¬ s.val + 20 < 3 by omega), if_neg (show ¬ s.val + 20 = 3 by omega), dif_neg (show ¬ s.val + 20 < 20 by omega)]
  congr 1; exact Fin.ext (show (s.val + 20 - 20) % 16 = s.val by omega)

theorem expect_bar : (exch (F := F) m).expect (barCell c) 0 = 15 := by
  unfold Schedule.expect Schedule.amountOf
  rw [duties_bar, Finset.sum_congr rfl (fun d _ => show (exch (F := F) m).amount (barCell c) 0 d = 1 from rfl), Finset.sum_const,
    Finset.card_erase_of_mem (Finset.mem_univ c), Finset.card_univ, Fintype.card_fin]
  rfl
theorem expect_dma {q : DmaSem sig} (h : dutyOf c q = {0}) : (exch (F := F) m).expect (dmaCell c q) 0 = amountOf q := by
  unfold Schedule.expect Schedule.amountOf
  rw [duties_dma, h, Finset.sum_singleton]; rfl
/-- The rest of the round of a transfer's semaphore is its one payload. -/
theorem rest_dma {q : DmaSem sig} (h : dutyOf c q = {0}) :
    bigSep ((exch (F := F) m).duties (dmaCell c q) 0 \ ∅) (fun d => (exch (F := F) m).payload (dmaCell c q) 0 d) = payOf m c q := by
  rw [Finset.sdiff_empty, duties_dma, h, bigSep_singleton]; rfl
/-- The rest of the round of the barrier: the payload of every other device. -/
theorem rest_bar :
    bigSep ((exch (F := F) m).duties (barCell c) 0 \ ∅) (fun d => (exch (F := F) m).payload (barCell c) 0 d)
      = bigSep (Finset.univ.erase c) fun d => held d (rowsM c) := by
  rw [Finset.sdiff_empty, duties_bar]; rfl

end Facts

/-! ## What each device owes, and the order of the waits -/

/-- The credits of the blocks device `c` sends from step `i` on. -/
def oBlk (c : Dev nD) (i : ℕ) : CellTallies nD τ sig Unit :=
  ∑ j ∈ Finset.Ico i 16, if tgt c j = c then 0 else tallyAt (dmaCell (tgt c j) (rcvS c)) () nBlk
/-- The signals of device `c` from the `d`-th on. -/
def oBar (c : Dev nD) (d : ℕ) : CellTallies nD τ sig Unit := ∑ j ∈ Finset.Ico d 16, tallyAt (barCell (fwd c j)) () 1
/-- All that device `c` owes at launch. -/
def O₀ (c : Dev nD) : CellTallies nD τ sig Unit := oBlk c 0 + oBar c 1

/-- The sum over an interval, its first summand apart. -/
theorem sum_Ico_first {A : Type*} [AddCommMonoid A] (f : ℕ → A) {i n : ℕ} (hi : i < n) :
    ∑ j ∈ Finset.Ico i n, f j = ∑ j ∈ Finset.Ico (i + 1) n, f j + f i := by
  have e : Finset.Ico i n = insert i (Finset.Ico (i + 1) n) := by
    ext j; rw [Finset.mem_insert, Finset.mem_Ico, Finset.mem_Ico]; omega
  rw [e, Finset.sum_insert (by rw [Finset.mem_Ico]; omega), add_comm]

theorem oBlk_end (c : Dev nD) : oBlk c 16 = 0 := by unfold oBlk; rw [Finset.Ico_self, Finset.sum_empty]
theorem oBar_end (c : Dev nD) : oBar c 16 = 0 := by unfold oBar; rw [Finset.Ico_self, Finset.sum_empty]
theorem oBlk_step_self {c : Dev nD} {i : ℕ} (hi : i < 16) (h : tgt c i = c) : oBlk c i = oBlk c (i + 1) := by
  unfold oBlk; rw [sum_Ico_first _ hi, if_pos h, add_zero]
theorem oBlk_step {c : Dev nD} {i : ℕ} (hi : i < 16) (h : tgt c i ≠ c) :
    oBlk c i = oBlk c (i + 1) + tallyAt (dmaCell (tgt c i) (rcvS c)) () nBlk := by
  unfold oBlk; rw [sum_Ico_first _ hi, if_neg h]
theorem oBar_step {c : Dev nD} {d : ℕ} (hd : d < 16) : oBar c d = oBar c (d + 1) + tallyAt (barCell (fwd c d)) () 1 := by
  unfold oBar; rw [sum_Ico_first _ hd]

/-- The one index of every cell of a TensorCore. -/
def L (g : GSem nD τ sig) : Finset Unit := if g.1.2 = .tc then {()} else ∅
/-- Receive semaphores are above the barrier, and the barrier above all others. -/
def lv (g : GSem nD τ sig) (_ : Unit) : ℕ := match g.2 with | .reg _ => 1 | .dma q => if 20 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c s : Dev nD) (u : Unit) : lv (dmaCell c (rcvS s)) u = 2 := by
  show (if 20 ≤ s.val + 20 then 2 else 0) = 2
  rw [if_pos (by omega)]

theorem tallyAt_pos {g g' : GSem nD τ sig} {u v : Unit} {n : ℕ} (h : 0 < tallyAt g u n g' v) : g' = g := by
  by_contra hn
  rw [tallyAt_apply, if_neg (fun h' => hn h'.1)] at h
  exact Nat.lt_irrefl 0 h

/-- A sum of tallies is positive only where a summand is. -/
theorem sum_tally_pos {S : Finset ℕ} {f : ℕ → CellTallies nD τ sig Unit} {g : GSem nD τ sig} {u : Unit} :
    0 < (∑ j ∈ S, f j) g u → ∃ j ∈ S, 0 < f j g u := by
  rw [Finset.sum_apply, Finsupp.finset_sum_apply]
  intro h
  by_contra hn
  push Not at hn
  exact absurd (Finset.sum_nonpos fun j hj => hn j hj) (Nat.not_le_of_lt h)

theorem oBlk_pos {c : Dev nD} {i : ℕ} {g : GSem nD τ sig} {u : Unit} (h : 0 < oBlk c i g u) : ∃ t, g = dmaCell t (rcvS c) := by
  obtain ⟨j, _, hj⟩ := sum_tally_pos h
  split at hj
  · exact absurd hj (Nat.lt_irrefl 0)
  · exact ⟨_, tallyAt_pos hj⟩
theorem oBar_pos {c : Dev nD} {d : ℕ} {g : GSem nD τ sig} {u : Unit} (h : 0 < oBar c d g u) : ∃ t, g = barCell t := by
  obtain ⟨j, _, hj⟩ := sum_tally_pos h
  exact ⟨_, tallyAt_pos hj⟩

/-- A wait on a semaphore below the receive semaphores may be made while blocks are owed. -/
theorem mayWait_blk (c : Dev nD) (sm : SemLoc sig) (hsm : lv ((c : Thread nD τ), sm) () < 2) (i : ℕ) :
    (levAts L lv : sProp 𝕄) ⊢ MayWait (c : Thread nD τ) sm () (oBlk c i) :=
  MayOwe.of_cut (L := L) (lev := lv) 1 (fun p hp => by rw [Finset.mem_singleton.mp hp, L_tc]; exact Finset.mem_singleton_self _)
    (fun g u hg => by obtain ⟨t, rfl⟩ := oBlk_pos hg; exact Finset.mem_singleton_self _)
    (fun p hp => by rw [Finset.mem_singleton.mp hp]; exact Nat.le_of_lt_succ hsm)
    (fun g u hg => by obtain ⟨t, rfl⟩ := oBlk_pos hg; rw [lv_rcv]; decide)

/-- The staging semaphore may be waited on at any time. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · have hcut : ∀ g u, 0 < O₀ c g u → (∃ t, g = dmaCell t (rcvS c)) ∨ ∃ t, g = barCell t := fun g u hg => by
      unfold O₀ at hg; rw [Pi.add_apply, Finsupp.add_apply] at hg
      rcases Nat.eq_zero_or_pos (oBlk c 0 g u) with h | h
      · rw [h, Nat.zero_add] at hg; exact .inr (oBar_pos hg)
      · exact .inl (oBlk_pos h)
    refine MayOwe.of_cut (L := L) (lev := lv) 0 (fun p hp => by rw [Finset.mem_singleton.mp hp, L_tc]; exact Finset.mem_singleton_self _)
      (fun g u hg => by rcases hcut g u hg with ⟨t, rfl⟩ | ⟨t, rfl⟩ <;> exact Finset.mem_singleton_self _)
      (fun p hp => by rw [Finset.mem_singleton.mp hp]; exact Nat.le_of_eq (if_neg (Nat.not_le_of_lt hq)))
      (fun g u hg => by
        rcases hcut g u hg with ⟨t, rfl⟩ | ⟨t, rfl⟩
        · rw [lv_rcv]; decide
        · exact Nat.one_pos)
  · rw [MayWait_zero]; iintro -; iempintro

end Cert.KernelIdealProof

end
-- ==== Proof.KernelIdealSteps.lean ====
/-
# `KernelIdealSteps`: one lemma for every kind of operation of the kernel

Each lemma takes what a device holds before an operation, with whatever else it holds set aside, to what it holds
after it: a signal to another device's barrier, a local copy, a wait, a load, the store of a block into its slot, the
sending of a block, the copying of a device's own block, the waits for what was sent and for what arrives.
-/
module

public import proofs.«01_k».proof.Proof.KernelIdealSched
public import Idealize.ShloMosaic.Lib.Pipeline.Value
public import Idealize.ShloMosaic.Lib.Ring
public import Idealize.SL.BI.BigOpNat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The programs of a device, and what it takes to run one to a postcondition. -/
abbrev PG (α : Type) : Type 1 := Prog (TpuEff nD τ sig (Elt F) Λ₀ .tc) α
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells of the protocol -/

/-- The semaphores of the protocol on a device: its barrier, then the kernel's own in order. -/
def csem (k : Fin 36) : SemLoc sig := if k.val = 0 then .reg barS else .dma k
def kcell (ck : Dev nD × Fin 36) : GSem nD τ sig := ((ck.1 : Thread nD τ), csem ck.2)

theorem kcell_bar (c : Dev nD) : kcell (c, 0) = barCell c := rfl
theorem kcell_dma (c : Dev nD) (q : DmaSem sig) (h : q.val ≠ 0) : kcell (c, q) = dmaCell c q := by
  unfold kcell csem; rw [if_neg h]

/-- What everybody knows: the protocol is kept at every cell, every cell has reached round 0, and the levels. -/
def env (K : Dev nD × Fin 36 → ℕ) : sProp 𝕄 :=
  iprop(((bigSep Finset.univ fun ck : Dev nD × Fin 36 => cellInv ER (exch m) (K ck) (kcell ck))
    ∗ bigSep Finset.univ fun ck : Dev nD × Fin 36 => reached ER (kcell ck) 0) ∗ levAts L lv)

instance env_persistent (K : Dev nD × Fin 36 → ℕ) : BI.Persistent (env m K) := by unfold env; infer_instance

variable (K : Dev nD × Fin 36 → ℕ)

theorem env_at (ck : Dev nD × Fin 36) : env m K ⊢ iprop(cellInv ER (exch m) (K ck) (kcell ck) ∗ reached ER (kcell ck) 0) := by
  unfold env
  iintro ⟨⟨#HI, #HR⟩, -⟩
  isplitr
  · iapply (show (bigSep Finset.univ fun ck : Dev nD × Fin 36 => cellInv ER (exch m) (K ck) (kcell ck)) ⊢ cellInv ER (exch m) (K ck) (kcell ck) from
      bigSep_elim (Finset.mem_univ ck)); iexact HI
  · iapply (show (bigSep Finset.univ fun ck : Dev nD × Fin 36 => (reached ER (kcell ck) 0 : sProp 𝕄)) ⊢ reached ER (kcell ck) 0 from
      bigSep_elim (Finset.mem_univ ck)); iexact HR
theorem env_bar (c : Dev nD) : env m K ⊢ iprop(cellInv ER (exch m) (K (c, 0)) (barCell c) ∗ reached ER (barCell c) 0) := env_at m K (c, 0)
theorem env_dma (c : Dev nD) (q : DmaSem sig) (h : q.val ≠ 0) :
    env m K ⊢ iprop(cellInv ER (exch m) (K (c, q)) (dmaCell c q) ∗ reached ER (dmaCell c q) 0) := by
  rw [← kcell_dma c q h]; exact env_at m K (c, q)
set_option maxRecDepth 16384 in
theorem env_may {P : sProp 𝕄} (h : (levAts L lv : sProp 𝕄) ⊢ P) : env m K ⊢ P := by
  refine (show env m K ⊢ (levAts L lv : sProp 𝕄) from ?_).trans h
  unfold env; exact sep_elim_right

/-- What a device knows, and what it still owes the others. -/
def ow (c : Dev nD) (O : CellTallies nD τ sig Unit) : sProp 𝕄 := iprop(env m K ∗ ∃ W, owes (c : Thread nD τ) O W)

variable {α : Type} {R : sProp (MT nD τ sig Unit (Elt F) ℕ UU ℕ)} {Q : α → sProp (MT nD τ sig Unit (Elt F) ℕ UU ℕ)}

/-! ## Signals, copies, waits -/

theorem payload_bar (c d : Dev nD) : (exch (F := F) m).payload (barCell c) 0 d = held d (rowsM c) := rfl
theorem payload_dma (c d : Dev nD) (q : DmaSem sig) : (exch (F := F) m).payload (dmaCell c q) 0 d = payOf m c q := rfl
theorem amount_dma (c d : Dev nD) (q : DmaSem sig) : (exch (F := F) m).amount (dmaCell c q) 0 d = amountOf q := rfl

/-- What the `d`-th signal takes: the right to make it, and the rows of the result it hands over. -/
def sig0 (c : Dev nD) (d : ℕ) : sProp 𝕄 := iprop(dutyTok ER (barCell (fwd c d)) 0 c ∗ held c (rowsM (fwd c d)))
/-- Before the `d`-th signal. -/
def stSig (c : Dev nD) (d : ℕ) : sProp 𝕄 := iprop(ow m K c (oBlk c 0 + oBar c d) ∗ bigSep (Finset.Ico d 16) (sig0 c))

theorem fwd_ne : ∀ (c : Dev nD) (d : Fin 16), d ≠ 0 → c ≠ fwd c d.val := by decide +kernel

theorem step_signal (c : Dev nD) (d : ℕ) {dev : Dev nD → ℕ} {hdev : ∀ c, dev c < nD} {p : Proc τ} {sem : Sem sig} {k : PUnit → Prog (TpuEff nD τ sig (Elt F) Λ₀ .tc) α}
    (hd : 1 ≤ d ∧ d < 16) (hs : ∀ c, dev c = (fwd c d).val) (hp : p = .tc := by rfl) (hsem : sem = barS := by rfl)
    (h : iprop(stSig m K c (d + 1) ∗ R) ⊢ WP c (k ⟨⟩) Q) :
    iprop(stSig m K c d ∗ R) ⊢ WP c (.op (.semSignal ((⟨dev c, hdev c⟩ : Dev nD), p) sem 1) k) Q := by
  subst hp hsem
  have e : (⟨dev c, hdev c⟩ : Dev nD) = fwd c d := Fin.ext (hs c)
  rw [e]
  have hne : c ≠ fwd c d := fwd_ne c ⟨d, hd.2⟩ (fun e => by have := congrArg Fin.val e; simp at this; omega)
  unfold stSig ow
  rw [bigSep_Ico_succ_bot hd.2]
  unfold sig0
  iintro ⟨⟨⟨#He, ⟨%W, HO⟩⟩, ⟨Htok, Hrows⟩, Hrest⟩, HR⟩
  ihave Hc := (env_bar m K (fwd c d)) $$ He
  icases Hc with ⟨#HI, #Hr⟩
  iapply (Rounds.wp_signal 𝒱₀ ER (exch m) (c : Thread nD τ) none (dst := (fwd c d : Thread nD τ)) (κ := K (fwd c d, 0))
      (d := c) (O₀ := oBlk c 0 + oBar c d) (by rw [duties_bar]; exact Finset.mem_erase.mpr ⟨hne, Finset.mem_univ _⟩) rfl () (oBlk c 0 + oBar c (d + 1))
      (by rw [oBar_step hd.2, add_assoc]; rfl)) $$ [HO Htok Hrows]
  · isplitr; · iexact HI
    isplitl [HO]; · iexact HO
    isplitl [Htok]; · iexact Htok
    isplitl [Hrows]; · rw [payload_bar]; iexact Hrows
    iexact Hr
  iintro HO
  iapply h
  unfold stSig ow
  isplitr [HR]
  · isplitl [HO]
    · isplitr; · iexact He
      iexists W; iexact HO
    · iexact Hrest
  · iexact HR

/-- A local copy into memory whose contents do not matter: what was held there becomes the credit to wait with. The
    semaphore's payload is the copy; the share of the source is given up. -/
theorem step_copy (c : Dev nD) {sp sp' : Space} {s : Shape} {e : EltTy} {src : Memref sig .tc sp s e} {dst : Memref sig .tc sp' s e} {q : DmaSem sig}
    {q' : DmaSem sig} {hsrc : src.view.WordExact} {hdst : dst.view.WordExact} {hsem : DmaTarget.Typed (nD := nD) (τ := τ) (p := .tc) sp (.dma q') (.here dst)}
    {k : PUnit → Prog (TpuEff nD τ sig (Elt F) Λ₀ .tc) α} {qs : PosShare TreeShare} {fs : Buf (Elt F) (src.view.loc (c : Thread nD τ))}
    {O : CellTallies nD τ sig Unit}
    (hq' : q' = q) (hq : q.val ≠ 0) (hd : dutyOf c q = {0}) (hN : dst.view.dmaCredit = amountOf q)
    (hpay : owns (c : Thread nD τ) dst fullShare (src.view.read (Elt F) fs) ⊢ payOf m c q)
    (h : iprop(ow m K c O ∗ cred (tallyAt (dmaCell c q) () (amountOf q)) ∗ R) ⊢ WP c (k ⟨⟩) Q) :
    iprop(ow m K c O ∗ ((src.view.loc (c : Thread nD τ) ↦[src.view.set]{qs} fs) ∗ held c dst ∗ dutyTok ER (dmaCell c q) 0 0) ∗ R)
      ⊢ WP c (.op (.enqueueDma src (.here dst) (.dma q') hsrc hdst hsem) k) Q := by
  subst hq'
  unfold ow held owns
  iintro ⟨⟨#He, HW⟩, ⟨Hsrc, ⟨%X, %fd, -, Hdst⟩, Htok⟩, HR⟩
  ihave Hc := (env_dma m K c q' hq) $$ He
  icases Hc with ⟨#HI, #Hr⟩
  iapply (Rounds.wp_copy_pointsTo 𝒱₀ ER (exch m) (c : Thread nD τ) none (sem := .dma q') (r := 0) (d := 0) (κ := K (c, q')) (fs := fs) (fd := fd)
      (by rw [duties_dma, hd]; exact Finset.mem_singleton_self _) () (amountOf q') hN (amount_dma m c 0 q')
      (by
        rw [payload_dma]
        refine (show iprop((dst.view.loc (c : Thread nD τ) ↦[dst.view.set]{fullShare} (dst.view.write (Elt F) fd (src.view.read (Elt F) fs) Finset.univ))
          ∗ (src.view.loc (c : Thread nD τ) ↦[src.view.set]{qs} fs)) ⊢ owns (c : Thread nD τ) dst fullShare (src.view.read (Elt F) fs) from ?_).trans hpay
        iintro ⟨H, -⟩
        unfold owns; iexists (dst.view.write (Elt F) fd (src.view.read (Elt F) fs) Finset.univ); isplitr
        · ipureintro; exact View.read_write_univ _ _
        · iexact H)) $$ [Hsrc Hdst Htok]
  · isplitr; · iexact HI
    isplitl [Hsrc]; · iexact Hsrc
    isplitl [Hdst]; · iexact Hdst
    isplitl [Htok]; · iexact Htok
    iexact Hr
  iintro Hc
  iapply h
  unfold ow
  isplitl [HW]
  · isplitr; · iexact He
    iexact HW
  isplitl [Hc] <;> iassumption

/-- A wait for a transfer that contributes once: its payload is there, and its semaphore is at zero for good. -/
theorem step_wait (c : Dev nD) (q : DmaSem sig) {q' : DmaSem sig} {sp sp' : Space} {s s' : Shape} {e e' : EltTy} {src : Memref sig .tc sp' s' e'}
    {dst : Memref sig .tc sp s e} {hsrc : src.view.WordExact} {hdst : dst.view.WordExact} {k : PUnit → Prog (TpuEff nD τ sig (Elt F) Λ₀ .tc) α}
    {O : CellTallies nD τ sig Unit}
    (hq' : q' = q) (hq : q.val ≠ 0) (hd : dutyOf c q = {0}) (hN : dst.view.dmaCredit = amountOf q)
    (hO : (levAts L lv : sProp 𝕄) ⊢ MayWait (c : Thread nD τ) (.dma q) () O)
    (h : iprop(ow m K c O ∗ (payOf m c q ∗ semVal (dmaCell c q) 0) ∗ R) ⊢ WP c (k ⟨⟩) Q) :
    iprop(ow m K c O ∗ (atPos ER (dmaCell c q) 0 ∅ 0 ∗ cred (tallyAt (dmaCell c q) () (amountOf q))) ∗ R)
      ⊢ WP c (.op (.waitDma2 q' src dst hsrc hdst) k) Q := by
  subst hq'
  unfold ow
  iintro ⟨⟨#He, ⟨%W, HO⟩⟩, ⟨Hat, Hcr⟩, HR⟩
  ihave Hc := (env_dma m K c q' hq) $$ He
  icases Hc with ⟨#HI, #Hr⟩
  rw [← hN]
  iapply (Rounds.wp_wait_rest_token 𝒱₀ ER (exch m) (c : Thread nD τ) none (κ := K (c, q'))
      (wpE_waitDma2_eq 𝒱₀ (c : Thread nD τ) none Set.univ) (Set.mem_univ _) () (O := O) (W := W) (R := 0) (m := 0) (T := ∅)
      (by rw [Nat.zero_add, expect_dma m c hd, hN])) $$ [Hcr HO Hat]
  · isplitr; · iexact HI
    isplitl [Hcr]; · iexact Hcr
    isplitl [HO]; · iexact HO
    isplitr; · iapply (env_may m K hO); iexact He
    iexact Hat
  iintro ⟨HO, Hat, -, Hpay⟩
  ihave Hp := (Entails.of_eq (rest_dma m c hd)) $$ Hpay
  imod (Rounds.cell_close ER (exch m) (Set.mem_univ (K (c, q'))) (fun h => h) (R := 0 + 1) (duties_later m (dmaCell c q'))) $$ [Hat] with Hz
  · isplitr; · iexact HI
    iexact Hat
  iapply h
  unfold ow
  isplitl [HO]
  · isplitr; · iexact He
    iexists _; iexact HO
  isplitr [HR]
  · isplitl [Hp] <;> iassumption
  iexact HR

/-- The wait for all other devices at the barrier: the rows of every other device's result that `c` writes. -/
theorem step_barrier (c : Dev nD) {sem : Sem sig} {k : PUnit → Prog (TpuEff nD τ sig (Elt F) Λ₀ .tc) α} (hsem : sem = barS)
    (h : iprop(ow m K c (oBlk c 0) ∗ ((bigSep (Finset.univ.erase c) fun d => held d (rowsM c)) ∗ semVal (barCell c) 0) ∗ R) ⊢ WP c (k ⟨⟩) Q) :
    iprop(ow m K c (oBlk c 0) ∗ (atPos ER (barCell c) 0 ∅ 0 ∗ cred (tallyAt (barCell c) () 15)) ∗ R)
      ⊢ WP c (.op (.semWait sem 15) k) Q := by
  subst hsem
  unfold ow
  iintro ⟨⟨#He, ⟨%W, HO⟩⟩, ⟨Hat, Hcr⟩, HR⟩
  ihave Hc := (env_bar m K c) $$ He
  icases Hc with ⟨#HI, #Hr⟩
  iapply (Rounds.wp_wait_rest_token 𝒱₀ ER (exch m) (c : Thread nD τ) none (κ := K (c, 0))
      (wpE_semWait_eq 𝒱₀ (c : Thread nD τ) none Set.univ) (Set.mem_univ _) () (O := oBlk c 0) (W := W) (R := 0) (m := 0) (T := ∅)
      (by rw [Nat.zero_add, expect_bar])) $$ [Hcr HO Hat]
  · isplitr; · iexact HI
    isplitl [Hcr]; · iexact Hcr
    isplitl [HO]; · iexact HO
    isplitr; · iapply (env_may m K (mayWait_blk c (.reg barS) Nat.one_lt_two 0)); iexact He
    iexact Hat
  iintro ⟨HO, Hat, -, Hpay⟩
  ihave Hp := (Entails.of_eq (rest_bar m c)) $$ Hpay
  imod (Rounds.cell_close ER (exch m) (Set.mem_univ (K (c, 0))) (fun h => h) (R := 0 + 1) (duties_later m (barCell c))) $$ [Hat] with Hz
  · isplitr; · iexact HI
    iexact Hat
  iapply h
  unfold ow
  isplitl [HO]
  · isplitr; · iexact He
    iexists _; iexact HO
  isplitr [HR]
  · isplitl [Hp] <;> iassumption
  iexact HR

/-! ## Loads and stores -/

theorem zero2 : (![0, 0] : Fin 2 → Nat) = fun _ => 0 := funext fun a => by fin_cases a <;> rfl

/-- The load of the activations. -/
theorem step_load_x (c : Dev nD) {X : Vec F S64x1024 .f32} {inb} {hl} {k : Vec F S64x1024 .f32 → Prog (TpuEff nD τ sig (Elt F) Λ₀ .tc) α}
    (h : iprop(owns (c : Thread nD τ) xM fullShare X ∗ R) ⊢ WP c (k X) Q) :
    iprop(owns (c : Thread nD τ) xM fullShare X ∗ R)
      ⊢ WP c (.op (.load xM (Rect.unit (s := S64x1024) ![0, 0] S64x1024.size inb).toLoadRect hl) k) Q := by
  unfold owns at h ⊢
  iintro ⟨⟨%f, %hf, H⟩, HR⟩
  have hX : X = f := hf.symm.trans (by simp only [Memref.view_whole, View.read_whole])
  subst hX
  iapply (wp_load 𝒱₀ (c : Thread nD τ) none Set.univ (m := xM) (by simp only [Memref.view_whole, View.set_whole]; exact Finset.subset_univ _)) $$ H; iintro H
  rw [show xM.view.readAt (Elt F) (Rect.unit (s := S64x1024) ![0, 0] S64x1024.size inb).toLoadRect X = X from
    Memref.readAt_unit_zero (Elt F) cc0_scratch0 zero2 _ X]
  iapply h
  isplitl [H]
  · iexists X; isplitr; · (ipureintro; exact hf)
    iexact H
  iexact HR

/-- The load of one part of the weights' buffer. -/
theorem step_load_w (c : Dev nD) (b : Fin 2) {X : Vec F S1024x512 .f32} {off : Fin 3 → ℕ} (ho : off = ![b.val, 0, 0]) {inb} {hl}
    {k : Vec F S1x1024x512 .f32 → Prog (TpuEff nD τ sig (Elt F) Λ₀ .tc) α}
    (h : ∀ V : Vec F S1x1024x512 .f32, shapeCast S1024x512 V shapeCasts_S1x1024x512_S1024x512 = X →
      iprop(owns (c : Thread nD τ) (halfM b) fullShare X ∗ R) ⊢ WP c (k V) Q) :
    iprop(owns (c : Thread nD τ) (halfM b) fullShare X ∗ R)
      ⊢ WP c (.op (.load wM (Rect.unit (s := S2x1024x512) off S1x1024x512.size inb).toLoadRect hl) k) Q := by
  subst ho
  unfold owns at h ⊢
  iintro ⟨⟨%f, %hf, H⟩, HR⟩
  iapply (wp_load_rect 𝒱₀ (c : Thread nD τ) none Set.univ (m := wM) (r := Rect.unit (s := S2x1024x512) ![b.val, 0, 0] S1x1024x512.size (half_inb b)) (S := (halfM b).view.set)
    (subset_of_eq (Memref.set_view_squeeze _ _).symm)) $$ H; iintro H
  iapply (h ((wM.access (Rect.unit (s := S2x1024x512) ![b.val, 0, 0] S1x1024x512.size (half_inb b))).read (Elt F) f) hf)
  isplitl [H]
  · iexists f; isplitr; · (ipureintro; exact hf)
    iexact H
  iexact HR

/-- The store of a block into its slot (the slot is loaded first, and what is loaded is not used). -/
theorem step_store_slot (c t : Dev nD) {off : Fin 3 → ℕ} (ho : off = ![t.val, 0, 0]) {inb} {hl} {hx} {hm} {w : Vec F S1x64x64 .f32} {y : FVec F S64x64 .f32}
    (hw : shapeCast S64x64 w shapeCasts_S1x64x64_S64x64 = y)
    {k : PUnit → Prog (TpuEff nD τ sig (Elt F) Λ₀ .tc) α}
    (h : iprop(owns (c : Thread nD τ) (slotM t) fullShare y ∗ R) ⊢ WP c (k ⟨⟩) Q) :
    iprop(held c (slotM t) ∗ R)
      ⊢ WP c (.op (.load sM (Rect.unit (s := S16x64x64) off S1x64x64.size inb).toLoadRect hl) fun _ =>
          .op (.store sM (Rect.unit (s := S16x64x64) off S1x64x64.size inb) w Finset.univ hx hm) k) Q := by
  subst ho
  unfold held owns
  iintro ⟨⟨%X, %f, -, H⟩, HR⟩
  iapply (wp_load_rect 𝒱₀ (c : Thread nD τ) none Set.univ (m := sM) (r := Rect.unit (s := S16x64x64) ![t.val, 0, 0] S1x64x64.size (slot_inb t)) (S := (slotM t).view.set)
    (subset_of_eq (Memref.set_view_squeeze _ _).symm)) $$ H; iintro H
  iapply (wp_store 𝒱₀ (c : Thread nD τ) none Set.univ (m := sM) (r := Rect.unit (s := S16x64x64) ![t.val, 0, 0] S1x64x64.size (slot_inb t)) (S := (slotM t).view.set)
    (subset_of_eq (Memref.set_view_squeeze _ _).symm)) $$ H; iintro H
  iapply h
  unfold owns
  isplitl [H]
  · iexists _; isplitr
    · ipureintro; rw [← hw]
      exact congrArg (fun u => shapeCast S64x64 u shapeCasts_S1x64x64_S64x64) (View.read_write_univ (v := sM.access (Rect.unit (s := S16x64x64) ![t.val, 0, 0] S1x64x64.size (slot_inb t))) f w)
    · iexact H
  iexact HR

/-- The copying of a device's own block from its slot into its own rows. -/
theorem step_own_copy (c t s : Dev nD) {o7 : Fin 3 → ℕ} {o8 : Fin 2 → ℕ} (h7 : o7 = ![t.val, 0, 0]) (h8 : o8 = ![64 * s.val, 0]) {i7} {i8} {l7} {l8} {hx} {hm}
    {y : FVec F S64x64 .f32} {pay : Vec F S1x64x64 .f32 → FVec F S64x64 .f32} (hp : ∀ V, pay V = shapeCast S64x64 V shapeCasts_S1x64x64_S64x64)
    {k : PUnit → Prog (TpuEff nD τ sig (Elt F) Λ₀ .tc) α}
    (h : iprop((owns (c : Thread nD τ) (slotM t) fullShare y ∗ owns (c : Thread nD τ) (rowsM s) fullShare y) ∗ R) ⊢ WP c (k ⟨⟩) Q) :
    iprop((owns (c : Thread nD τ) (slotM t) fullShare y ∗ held c (rowsM s)) ∗ R)
      ⊢ WP c (.op (.load sM (Rect.unit (s := S16x64x64) o7 S1x64x64.size i7).toLoadRect l7) fun V =>
          .op (.load oM (Rect.unit (s := S1024x64) o8 S64x64.size i8).toLoadRect l8) fun _ =>
            .op (.store oM (Rect.unit (s := S1024x64) o8 S64x64.size i8) (pay V) Finset.univ hx hm) k) Q := by
  subst h7 h8
  unfold held owns at *
  iintro ⟨⟨⟨%f, %hf, H⟩, ⟨%X, %g, -, G⟩⟩, HR⟩
  iapply (wp_load_rect 𝒱₀ (c : Thread nD τ) none Set.univ (m := sM) (r := Rect.unit (s := S16x64x64) ![t.val, 0, 0] S1x64x64.size (slot_inb t)) (S := (slotM t).view.set)
    (subset_of_eq (Memref.set_view_squeeze _ _).symm)) $$ H; iintro H
  iapply (wp_load_rect 𝒱₀ (c : Thread nD τ) none Set.univ (m := oM) (r := Rect.unit (s := S1024x64) ![64 * s.val, 0] S64x64.size (rows_inb s)) (S := (rowsM s).view.set) (Finset.Subset.refl _)) $$ G; iintro G
  iapply (wp_store 𝒱₀ (c : Thread nD τ) none Set.univ (m := oM) (r := Rect.unit (s := S1024x64) ![64 * s.val, 0] S64x64.size (rows_inb s)) (S := (rowsM s).view.set) (Finset.Subset.refl _)) $$ G; iintro G
  iapply h
  isplitr [HR]
  · isplitl [H]
    · iexists f; isplitr; · (ipureintro; exact hf)
      iexact H
    · iexists ((oM.access (Rect.unit (s := S1024x64) ![64 * s.val, 0] S64x64.size (rows_inb s))).write (Elt F) g
        (pay ((sM.access (Rect.unit (s := S16x64x64) ![t.val, 0, 0] S1x64x64.size (slot_inb t))).read (Elt F) f)) Finset.univ); isplitr
      · ipureintro; rw [← hf, hp]
        exact View.read_write_univ (v := oM.access (Rect.unit (s := S1024x64) ![64 * s.val, 0] S64x64.size (rows_inb s))) g _
      · iexact G
  iexact HR

/-! ## The sixteen steps: a block is stored, sent or copied -/

theorem via {P P' P'' : sProp (MT nD τ sig Unit (Elt F) ℕ UU ℕ)} (h : P ⊢ P') (h' : P' ⊢ P'') : P ⊢ P'' := h.trans h'

/-- What it takes to send the block of a step to device `t`: its send semaphore, the two contributions, and the rows
    on `t` it goes to. -/
def pend (c t : Dev nD) : sProp 𝕄 :=
  iprop(atPos ER (dmaCell c (sndS t)) 0 ∅ 0 ∗ dutyTok ER (dmaCell c (sndS t)) 0 0 ∗ dutyTok ER (dmaCell t (rcvS c)) 0 0 ∗ held t (rowsM c))
/-- What the block of a step becomes: its own rows if it is `c`'s own, otherwise the sending of it. -/
def goal (c t : Dev nD) : sProp 𝕄 := if t = c then held c (rowsM c) else pend c t
/-- What is waited for after sending. -/
def sent (c t : Dev nD) : sProp 𝕄 := iprop(atPos ER (dmaCell c (sndS t)) 0 ∅ 0 ∗ cred (tallyAt (dmaCell c (sndS t)) () nBlk))
/-- The own block in place. -/
def done (c t : Dev nD) : sProp 𝕄 := iprop(held c (slotM t) ∗ owns (c : Thread nD τ) (rowsM c) fullShare (blk m c (stepOf c t)))

/-- A step before its block is stored, -/
def T0 (c : Dev nD) (i : ℕ) : sProp 𝕄 := iprop(held c (slotM (tgt c i)) ∗ goal c (tgt c i))
/-- with the block in its slot, -/
def T1 (c : Dev nD) (i : ℕ) : sProp 𝕄 := iprop(owns (c : Thread nD τ) (slotM (tgt c i)) fullShare (blk m c i) ∗ goal c (tgt c i))
/-- once it is sent, unless it is the own one, -/
def T2 (c : Dev nD) (i : ℕ) : sProp 𝕄 := if tgt c i = c then T1 m c i else sent c (tgt c i)
/-- once the own one is in place too, -/
def T3 (c : Dev nD) (i : ℕ) : sProp 𝕄 := if tgt c i = c then done m c (tgt c i) else sent c (tgt c i)
/-- and once the sending has been waited for. -/
def T4 (c : Dev nD) (i : ℕ) : sProp 𝕄 :=
  if tgt c i = c then done m c (tgt c i) else iprop(held c (slotM (tgt c i)) ∗ semVal (dmaCell c (sndS (tgt c i))) 0)

/-- Before step `i`, after its store, and after its sending. -/
def stPut (c : Dev nD) (i : ℕ) : sProp 𝕄 :=
  iprop(ow m K c (oBlk c i) ∗ bigSep (Finset.Ico i 16) (T0 c) ∗ bigSep (Finset.Ico 0 i) (T3 m c))
def stSend (c : Dev nD) (i : ℕ) : sProp 𝕄 :=
  iprop(ow m K c (oBlk c i) ∗ bigSep (Finset.Ico (i + 1) 16) (T0 c) ∗ T1 m c i ∗ bigSep (Finset.Ico 0 i) (T3 m c))
def stOwn (c : Dev nD) (i : ℕ) : sProp 𝕄 :=
  iprop(ow m K c (oBlk c (i + 1)) ∗ bigSep (Finset.Ico (i + 1) 16) (T0 c) ∗ T2 m c i ∗ bigSep (Finset.Ico 0 i) (T3 m c))

/-- The store of the block of step `i`. -/
theorem step_put (c : Dev nD) (i : ℕ) (hi : i < 16) {o : Dev nD → Fin 3 → ℕ} (ho : ∀ c, o c = ![(tgt c i).val, 0, 0]) {inb} {hl} {hx} {hm} {w : Vec F S1x64x64 .f32}
    (hw : shapeCast S64x64 w shapeCasts_S1x64x64_S64x64 = blk m c i)
    {k : PUnit → Prog (TpuEff nD τ sig (Elt F) Λ₀ .tc) α}
    (h : iprop(stSend m K c i ∗ R) ⊢ WP c (k ⟨⟩) Q) :
    iprop(stPut m K c i ∗ R)
      ⊢ WP c (.op (.load sM (Rect.unit (s := S16x64x64) (o c) S1x64x64.size inb).toLoadRect hl) fun _ =>
          .op (.store sM (Rect.unit (s := S16x64x64) (o c) S1x64x64.size inb) w Finset.univ hx hm) k) Q := by
  refine via ?_ (step_store_slot (R := iprop(ow m K c (oBlk c i) ∗ bigSep (Finset.Ico (i + 1) 16) (T0 c) ∗ goal c (tgt c i)
    ∗ bigSep (Finset.Ico 0 i) (T3 m c) ∗ R)) c (tgt c i) (ho c) hw (via ?_ h))
  · unfold stPut; rw [bigSep_Ico_succ_bot hi]; unfold T0
    iintro ⟨⟨H1, ⟨⟨H2, H3⟩, H4⟩, H5⟩, HR⟩
    isplitl [H2]; · iexact H2
    isplitl [H1]; · iexact H1
    isplitl [H4]; · iexact H4
    isplitl [H3]; · iexact H3
    isplitl [H5] <;> iassumption
  · unfold stSend T1
    iintro ⟨H1, H2, H3, H4, H5, HR⟩
    isplitr [HR]
    · isplitl [H2]; · iexact H2
      isplitl [H3]; · iexact H3
      isplitl [H1 H4]; · (isplitl [H1] <;> iassumption)
      iexact H5
    · iexact HR

/-- What the text of a send says: when it is made, to whom, with which semaphores, whence and whither. -/
def SendSite (i : ℕ) (cond : Dev nD → BitVec 1) (dev : Dev nD → ℕ) (o3 o4 : Dev nD → Fin 1 → ℕ) (o5 : Dev nD → Fin 2 → ℕ) (o6 : Dev nD → Fin 3 → ℕ) : Prop :=
  ∀ c : Dev nD, (cond c = 1#1 ↔ tgt c i ≠ c) ∧ dev c = (tgt c i).val ∧ o3 c = ![(tgt c i).val] ∧ o4 c = ![c.val] ∧ o5 c = ![64 * c.val, 0] ∧ o6 c = ![(tgt c i).val, 0, 0]

/-- A copy to another device into memory whose contents do not matter: the source's semaphore pays the source back, the
    destination's pays what was copied. -/
theorem step_remote (c t : Dev nD) {src dst : Memref sig .tc .vmem S64x64 .f32} {y : FVec F S64x64 .f32} {q₁ q₂ : DmaSem sig} (hn₁ : q₁.val ≠ 0) (hn₂ : q₂.val ≠ 0)
    (hd₁ : dutyOf c q₁ = {0}) (hd₂ : dutyOf t q₂ = {0}) (hN : dst.view.dmaCredit = nBlk) (ha₁ : amountOf q₁ = nBlk) (ha₂ : amountOf q₂ = nBlk)
    (hp₁ : owns (c : Thread nD τ) src fullShare y ⊢ payOf m c q₁) (hp₂ : owns (t : Thread nD τ) dst fullShare y ⊢ payOf m t q₂)
    {O₁ O : CellTallies nD τ sig Unit} (hO : O₁ = O + tallyAt (dmaCell t q₂) () nBlk)
    {hsc : (dst : Memref sig (Dev.tc t : Thread nD τ).2.kind .vmem S64x64 .f32).view.ref.isScScratch = false} {hsrc : src.view.WordExact} {hdst : dst.view.WordExact} {hsem : DmaTarget.Typed .vmem (.dma q₂) (.remote (Dev.tc t : Thread nD τ) dst (.dma q₁) hsc)}
    {k : PUnit → Prog (TpuEff nD τ sig (Elt F) Λ₀ .tc) α}
    (h : iprop((ow m K c O ∗ cred (tallyAt (dmaCell c q₁) () nBlk)) ∗ R) ⊢ WP c (k ⟨⟩) Q) :
    iprop((ow m K c O₁ ∗ (owns (c : Thread nD τ) src fullShare y ∗ held t dst) ∗ dutyTok ER (dmaCell c q₁) 0 0 ∗ dutyTok ER (dmaCell t q₂) 0 0) ∗ R)
      ⊢ WP c (.op (.enqueueDma src (.remote (Dev.tc t : Thread nD τ) dst (.dma q₁) hsc) (.dma q₂) hsrc hdst hsem) k) Q := by
  have h1 (f : Buf (Elt F) (src.view.loc (c : Thread nD τ))) (hf : src.view.read (Elt F) f = y) : (src.view.loc (c : Thread nD τ) ↦[src.view.set]{fullShare} f : sProp 𝕄) ⊢ (exch (F := F) m).payload (dmaCell c q₁) 0 0 := by
    rw [payload_dma]
    refine via ?_ hp₁
    unfold owns
    iintro H; iexists f; isplitr; · (ipureintro; exact hf)
    iexact H
  have h2 (f : Buf (Elt F) (src.view.loc (c : Thread nD τ))) (hf : src.view.read (Elt F) f = y) (g : Buf (Elt F) (dst.view.loc (t : Thread nD τ))) :
      (dst.view.loc (t : Thread nD τ) ↦[dst.view.set]{fullShare} (dst.view.write (Elt F) g (src.view.read (Elt F) f) Finset.univ) : sProp 𝕄)
        ⊢ (exch (F := F) m).payload (dmaCell t q₂) 0 0 := by
    rw [payload_dma]
    refine via ?_ hp₂
    unfold owns
    iintro H; iexists (dst.view.write (Elt F) g (src.view.read (Elt F) f) Finset.univ); isplitr
    · ipureintro; rw [View.read_write_univ, hf]
    · iexact H
  unfold ow held owns
  iintro ⟨⟨⟨#He, ⟨%W, HO⟩⟩, ⟨⟨%f, %hf, Hsrc⟩, ⟨%X, %g, -, Hdst⟩⟩, Ht1, Ht2⟩, HR⟩
  ihave Hc1 := (env_dma m K c q₁ hn₁) $$ He
  icases Hc1 with ⟨#HI1, #Hr1⟩
  ihave Hc2 := (env_dma m K t q₂ hn₂) $$ He
  icases Hc2 with ⟨#HI2, #Hr2⟩
  iapply (Rounds.wp_send_pointsTo 𝒱₀ ER (exch m) (c : Thread nD τ) none (c' := (t : Thread nD τ)) (src := src) (dst := dst) (hsc := hsc) (hsrc := hsrc) (hdst := hdst) (hsem := hsem) (κ₁ := K (c, q₁)) (κ₂ := K (t, q₂))
    (r₁ := 0) (r₂ := 0) (d₁ := 0) (d₂ := 0) (fd := g) (fs := f) (sS := .dma q₁) (sem := .dma q₂)
    (by rw [duties_dma, hd₁]; exact Finset.mem_singleton_self _)
    (by rw [duties_dma, hd₂]; exact Finset.mem_singleton_self _)
    () () nBlk hN ((amount_dma m c 0 _).trans ha₁) ((amount_dma m t 0 _).trans ha₂) O hO (W := W) (h1 f hf) (h2 f hf g)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hcr, HO⟩
  iapply h
  unfold ow
  isplitr [HR]
  · isplitl [HO]
    · isplitr; · iexact He
      iexists W; iexact HO
    iexact Hcr
  iexact HR

theorem sndS_ne : ∀ t : Dev nD, (sndS t : DmaSem sig).val ≠ 0 := by decide
theorem rcvS_ne : ∀ t : Dev nD, (rcvS t : DmaSem sig).val ≠ 0 := by decide

/-- The sending of a block to device `t`. -/
theorem step_send_core (c t : Dev nD) (hne : t ≠ c) (y : FVec F S64x64 .f32) (hy : y = blk m c (stepOf c t)) {O₁ O : CellTallies nD τ sig Unit}
    (hO : O₁ = O + tallyAt (dmaCell t (rcvS c)) () nBlk) {dev : ℕ} {p3 p4 : Fin 1 → ℕ} {p5 : Fin 2 → ℕ} {p6 : Fin 3 → ℕ}
    (hd : dev = t.val) (e3 : p3 = ![t.val]) (e4 : p4 = ![c.val]) (e5 : p5 = ![64 * c.val, 0]) (e6 : p6 = ![t.val, 0, 0])
    {hdev : dev < nD} {i3 : ∀ a, p3 a + S1.size a ≤ S16.size a} {i4 : ∀ a, p4 a + S1.size a ≤ S16.size a}
    {i5 : ∀ a, p5 a + S64x64.size a ≤ S1024x64.size a} {i6 : ∀ a, p6 a + S1x64x64.size a ≤ S16x64x64.size a}
    {k : PUnit → Prog (TpuEff nD τ sig (Elt F) Λ₀ .tc) α}
    (h : iprop((ow m K c O ∗ sent c t) ∗ R) ⊢ WP c (k ⟨⟩) Q) :
    iprop((ow m K c O₁ ∗ owns (c : Thread nD τ) (slotM t) fullShare y ∗ pend c t) ∗ R)
      ⊢ WP c (.op (.enqueueDma ((sM.slice (Rect.unit (s := S16x64x64) p6 S1x64x64.size i6) (fun _ => rfl)).squeeze S64x64 squeezes_S1x64x64_S64x64)
            (.remote (Dev.tc (⟨dev, hdev⟩ : Dev nD)) (oM.slice (Rect.unit (s := S1024x64) p5 S64x64.size i5) (fun _ => rfl))
              (.dma ((cc0_scratch6.slice (Rect.unit (s := S16) p3 S1.size i3)).squeeze S_ squeezes_S1_S_ : DmaSems sig S_).sem))
            (.dma ((cc0_scratch7.slice (Rect.unit (s := S16) p4 S1.size i4)).squeeze S_ squeezes_S1_S_ : DmaSems sig S_).sem)
            ((View.wordExact_bits rfl).reshape _ _) (View.wordExact_bits rfl) ⟨⟨rfl, Or.inl rfl⟩, trivial⟩) k) Q := by
  subst hd e3 e4 e5 e6
  have hs1 : owns (c : Thread nD τ) (slotM t) fullShare y ⊢ payOf m c (sndS t) := by
    rw [pay_snd]; unfold sndPay held
    iintro H; iexists y; iexact H
  have hs2 : owns (t : Thread nD τ) (rowsM c) fullShare y ⊢ payOf m t (rcvS c) := by
    rw [pay_rcv, hy]; exact (Entails.refl _)
  rw [sndS_eq, rcvS_eq]
  have hn1 : (sndS t : DmaSem sig).val ≠ 0 := sndS_ne t
  have hn2 : (rcvS c : DmaSem sig).val ≠ 0 := rcvS_ne c
  refine via ?_ (step_remote (R := iprop(atPos ER (dmaCell c (sndS t)) 0 ∅ 0 ∗ R)) m K c t (src := slotM t) (dst := rowsM c) (q₁ := sndS t) (q₂ := rcvS c) (y := y) hn1 hn2
    (duty_snd c hne) (duty_rcv t hne.symm) (credit_rows c) (amount_snd t) (amount_rcv c) hs1 hs2 hO (via ?_ h))
  · unfold pend
    iintro ⟨⟨H1, H2, H3, H4, H5, H6⟩, HR⟩
    isplitr [H3 HR]
    · isplitl [H1]; · iexact H1
      isplitl [H2 H6]; · (isplitl [H2] <;> iassumption)
      isplitl [H4] <;> iassumption
    · isplitl [H3] <;> iassumption
  · unfold sent
    iintro ⟨⟨H1, H2⟩, H3, HR⟩
    isplitr [HR]
    · isplitl [H1]; · iexact H1
      isplitl [H3] <;> iassumption
    · iexact HR

/-- The sending of the block of step `i`: nothing happens at the step of the own block. -/
theorem step_send (c : Dev nD) (i : ℕ) (hi : i < 16) {cond : Dev nD → BitVec 1} {dev : Dev nD → ℕ} {o3 o4 : Dev nD → Fin 1 → ℕ} {o5 : Dev nD → Fin 2 → ℕ} {o6 : Dev nD → Fin 3 → ℕ}
    (hs : SendSite i cond dev o3 o4 o5 o6) {hdev : cond c = 1#1 → dev c < nD}
    {i3 : cond c = 1#1 → ∀ a, o3 c a + S1.size a ≤ S16.size a} {i4 : cond c = 1#1 → ∀ a, o4 c a + S1.size a ≤ S16.size a}
    {i5 : cond c = 1#1 → ∀ a, o5 c a + S64x64.size a ≤ S1024x64.size a} {i6 : cond c = 1#1 → ∀ a, o6 c a + S1x64x64.size a ≤ S16x64x64.size a}
    {k : Prog (TpuEff nD τ sig (Elt F) Λ₀ .tc) α}
    (h : iprop(stOwn m K c i ∗ R) ⊢ WP c k Q) :
    iprop(stSend m K c i ∗ R)
      ⊢ WP c (if H : cond c = 1#1 then
          .op (.enqueueDma ((sM.slice (Rect.unit (s := S16x64x64) (o6 c) S1x64x64.size (i6 H)) (fun _ => rfl)).squeeze S64x64 squeezes_S1x64x64_S64x64)
            (.remote (Dev.tc (⟨dev c, hdev H⟩ : Dev nD)) (oM.slice (Rect.unit (s := S1024x64) (o5 c) S64x64.size (i5 H)) (fun _ => rfl))
              (.dma ((cc0_scratch6.slice (Rect.unit (s := S16) (o3 c) S1.size (i3 H))).squeeze S_ squeezes_S1_S_ : DmaSems sig S_).sem) )
            (.dma ((cc0_scratch7.slice (Rect.unit (s := S16) (o4 c) S1.size (i4 H))).squeeze S_ squeezes_S1_S_ : DmaSems sig S_).sem) ((View.wordExact_bits rfl).reshape _ _) (View.wordExact_bits rfl) ⟨⟨rfl, Or.inl rfl⟩, trivial⟩) fun _ => k
        else k) Q := by
  obtain ⟨hc, hd, h3, h4, h5, h6⟩ := hs c
  by_cases H : cond c = 1#1
  · have hne := hc.mp H
    rw [dif_pos H]
    refine via ?_ (step_send_core (R := iprop(bigSep (Finset.Ico (i + 1) 16) (T0 c) ∗ bigSep (Finset.Ico 0 i) (T3 m c) ∗ R)) m K c (tgt c i) hne
      (blk m c i) (by rw [stepOf_tgt c i (Finset.mem_Ico.mpr ⟨Nat.zero_le _, hi⟩)]) (oBlk_step hi hne) hd h3 h4 h5 h6 (via ?_ h))
    · unfold stSend T1 goal
      rw [if_neg hne]
      iintro ⟨⟨H1, H2, ⟨H3, H4⟩, H5⟩, HR⟩
      isplitl [H1 H3 H4]
      · isplitl [H1]; · iexact H1
        isplitl [H3] <;> iassumption
      isplitl [H2]; · iexact H2
      isplitl [H5] <;> iassumption
    · unfold stOwn T2
      rw [if_neg hne]
      iintro ⟨⟨H1, H2⟩, H3, H4, HR⟩
      isplitr [HR]
      · isplitl [H1]; · iexact H1
        isplitl [H3]; · iexact H3
        isplitl [H2] <;> iassumption
      · iexact HR
  · have heq : tgt c i = c := by by_contra hn; exact H (hc.mpr hn)
    rw [dif_neg H]
    refine via ?_ h
    unfold stSend stOwn T2
    rw [if_pos heq, oBlk_step_self hi heq]

/-- What the text of such a copying says: when it is made, whence and whither. -/
def OwnSite (i : ℕ) (cond : Dev nD → BitVec 1) (o7 : Dev nD → Fin 3 → ℕ) (o8 : Dev nD → Fin 2 → ℕ) : Prop :=
  ∀ c : Dev nD, (cond c = 1#1 ↔ tgt c i = c) ∧ o7 c = ![(tgt c i).val, 0, 0] ∧ o8 c = ![64 * c.val, 0]

/-- The copying of the block of step `i` into the device's own rows, if it is the own block. -/
theorem step_own (c : Dev nD) (i : ℕ) (hi : i < 16) {cond : Dev nD → BitVec 1} {o7 : Dev nD → Fin 3 → ℕ} {o8 : Dev nD → Fin 2 → ℕ}
    (hs : OwnSite i cond o7 o8)
    {i7 : cond c = 1#1 → ∀ a, o7 c a + S1x64x64.size a ≤ S16x64x64.size a} {i8 : cond c = 1#1 → ∀ a, o8 c a + S64x64.size a ≤ S1024x64.size a}
    {pay : Vec F S1x64x64 .f32 → FVec F S64x64 .f32} (hp : ∀ V, pay V = shapeCast S64x64 V shapeCasts_S1x64x64_S64x64)
    {k : Prog (TpuEff nD τ sig (Elt F) Λ₀ .tc) α}
    (h : iprop(stPut m K c (i + 1) ∗ R) ⊢ WP c k Q) :
    iprop(stOwn m K c i ∗ R)
      ⊢ WP c (if H : cond c = 1#1 then
          .op (.load sM (Rect.unit (s := S16x64x64) (o7 c) S1x64x64.size (i7 H)).toLoadRect (View.loadsAt_vmem h_S1x64x64)) fun V =>
            .op (.load oM (Rect.unit (s := S1024x64) (o8 c) S64x64.size (i8 H)).toLoadRect (View.loadsAt_vmem h_S64x64)) fun _ =>
              .op (.store oM (Rect.unit (s := S1024x64) (o8 c) S64x64.size (i8 H)) (pay V) Finset.univ (View.stores_vmem_bits_univ h_S64x64 rfl) (.inl rfl)) fun _ => k
        else k) Q := by
  obtain ⟨hc, h7, h8⟩ := hs c
  have hst : stepOf c (tgt c i) = i := stepOf_tgt c i (Finset.mem_Ico.mpr ⟨Nat.zero_le _, hi⟩)
  by_cases H : cond c = 1#1
  · have heq := hc.mp H
    rw [dif_pos H]
    refine via ?_ (step_own_copy (R := iprop(ow m K c (oBlk c (i + 1)) ∗ bigSep (Finset.Ico (i + 1) 16) (T0 c) ∗ bigSep (Finset.Ico 0 i) (T3 m c) ∗ R)) c (tgt c i) c h7 h8
      (y := blk m c i) hp (via ?_ h))
    · unfold stOwn T2
      rw [if_pos heq]; unfold T1 goal; rw [if_pos heq]
      iintro ⟨⟨H1, H2, ⟨H3, H4⟩, H5⟩, HR⟩
      isplitl [H3 H4]; · (isplitl [H3] <;> iassumption)
      isplitl [H1]; · iexact H1
      isplitl [H2]; · iexact H2
      isplitl [H5] <;> iassumption
    · unfold stPut
      rw [bigSep_Ico_succ_top (Nat.zero_le i), show T3 m c i = done m c (tgt c i) from if_pos heq]
      unfold done held; rw [hst]
      iintro ⟨⟨H1, H2⟩, H3, H4, H5, HR⟩
      isplitr [HR]
      · isplitl [H3]; · iexact H3
        isplitl [H4]; · iexact H4
        isplitr [H5]
        · isplitl [H1]; · (iexists (blk m c i); iexact H1)
          iexact H2
        iexact H5
      · iexact HR
  · have hne : tgt c i ≠ c := fun e => H (hc.mpr e)
    rw [dif_neg H]
    refine via ?_ h
    unfold stOwn stPut
    rw [bigSep_Ico_succ_top (Nat.zero_le i), show T3 m c i = sent c (tgt c i) from if_neg hne, show T2 m c i = sent c (tgt c i) from if_neg hne]

/-! ## The waits for what was sent and for what arrives -/

/-- Before the wait for the sending of step `i`. -/
def stSent (c : Dev nD) (i : ℕ) : sProp 𝕄 :=
  iprop(ow m K c 0 ∗ bigSep (Finset.Ico i 16) (T3 m c) ∗ bigSep (Finset.Ico 0 i) (T4 m c))

/-- After the last step, nothing is owed any more. -/
theorem stSent_start (c : Dev nD) : stPut m K c 16 ⊢ stSent m K c 0 := by
  unfold stPut stSent
  rw [oBlk_end, Finset.Ico_self, Finset.Ico_self, bigSep_empty, bigSep_empty]
  iintro ⟨H1, -, H2⟩
  isplitl [H1]; · iexact H1
  isplitl [H2]; · iexact H2
  iempintro

theorem mayWait_none (c : Dev nD) (sm : SemLoc sig) : (levAts L lv : sProp 𝕄) ⊢ MayWait (c : Thread nD τ) sm () 0 := by
  rw [MayWait_zero]; iintro -; iempintro

/-- What the text of a wait for a sending says: when it is made, on which semaphore, of what. -/
def SentSite (i : ℕ) (cond : Dev nD → BitVec 1) (o3 : Dev nD → Fin 1 → ℕ) (o5 : Dev nD → Fin 2 → ℕ) (o6 : Dev nD → Fin 3 → ℕ) : Prop :=
  ∀ c : Dev nD, (cond c = 1#1 ↔ tgt c i ≠ c) ∧ o3 c = ![(tgt c i).val] ∧ o6 c = ![(tgt c i).val, 0, 0]

/-- The wait for the sending of step `i`, if its block was sent. -/
theorem step_sent (c : Dev nD) (i : ℕ) (hi : i < 16) {cond : Dev nD → BitVec 1} {o3 : Dev nD → Fin 1 → ℕ} {o5 : Dev nD → Fin 2 → ℕ} {o6 : Dev nD → Fin 3 → ℕ}
    (hs : SentSite i cond o3 o5 o6)
    {i3 : cond c = 1#1 → ∀ a, o3 c a + S1.size a ≤ S16.size a}
    {i5 : cond c = 1#1 → ∀ a, o5 c a + S64x64.size a ≤ S1024x64.size a} {i6 : cond c = 1#1 → ∀ a, o6 c a + S1x64x64.size a ≤ S16x64x64.size a}
    {k : Prog (TpuEff nD τ sig (Elt F) Λ₀ .tc) α}
    (h : iprop(stSent m K c (i + 1) ∗ R) ⊢ WP c k Q) :
    iprop(stSent m K c i ∗ R)
      ⊢ WP c (if H : cond c = 1#1 then
          .op (.waitDma2 ((cc0_scratch6.slice (Rect.unit (s := S16) (o3 c) S1.size (i3 H))).squeeze S_ squeezes_S1_S_ : DmaSems sig S_).sem
            (oM.slice (Rect.unit (s := S1024x64) (o5 c) S64x64.size (i5 H)) (fun _ => rfl))
            ((sM.slice (Rect.unit (s := S16x64x64) (o6 c) S1x64x64.size (i6 H)) (fun _ => rfl)).squeeze S64x64 squeezes_S1x64x64_S64x64)
            (View.wordExact_bits rfl) ((View.wordExact_bits rfl).reshape _ _)) fun _ => k
        else k) Q := by
  obtain ⟨hc, h3, h6⟩ := hs c
  by_cases H : cond c = 1#1
  · have hne := hc.mp H
    rw [dif_pos H]
    have hcr : ∀ (p6 : Fin 3 → ℕ) (i6 : ∀ a, p6 a + S1x64x64.size a ≤ S16x64x64.size a), p6 = ![(tgt c i).val, 0, 0] →
        ((sM.slice (Rect.unit (s := S16x64x64) p6 S1x64x64.size i6) (fun _ => rfl)).squeeze S64x64 squeezes_S1x64x64_S64x64).view.dmaCredit = amountOf (sndS (tgt c i)) := by
      intro p6 i6 e; subst e; rw [amount_snd]
    have hq : ∀ (p3 : Fin 1 → ℕ) (i3 : ∀ a, p3 a + S1.size a ≤ S16.size a), p3 = ![(tgt c i).val] →
        ((cc0_scratch6.slice (Rect.unit (s := S16) p3 S1.size i3)).squeeze S_ squeezes_S1_S_ : DmaSems sig S_).sem = sndS (tgt c i) := by
      intro p3 i3 e; subst e; exact sndS_eq _
    refine via ?_ (step_wait (R := iprop(bigSep (Finset.Ico (i + 1) 16) (T3 m c) ∗ bigSep (Finset.Ico 0 i) (T4 m c) ∗ R)) m K c (sndS (tgt c i)) (hq _ _ h3) (sndS_ne _)
      (duty_snd c hne) (hcr _ _ h6) (mayWait_none c _) (via ?_ h))
    · unfold stSent
      rw [bigSep_Ico_succ_bot hi, show T3 m c i = sent c (tgt c i) from if_neg hne, amount_snd]
      unfold sent
      iintro ⟨⟨H1, ⟨H2, H3⟩, H4⟩, HR⟩
      isplitl [H1]; · iexact H1
      isplitl [H2]; · iexact H2
      isplitl [H3]; · iexact H3
      isplitl [H4] <;> iassumption
    · unfold stSent
      rw [bigSep_Ico_succ_top (Nat.zero_le i), show T4 m c i = _ from if_neg hne, pay_snd]
      unfold sndPay
      iintro ⟨H1, ⟨H2, H3⟩, H4, H5, HR⟩
      isplitr [HR]
      · isplitl [H1]; · iexact H1
        isplitl [H4]; · iexact H4
        isplitr [H5]
        · isplitl [H2] <;> iassumption
        iexact H5
      · iexact HR
  · have heq : tgt c i = c := by by_contra hn; exact H (hc.mpr hn)
    rw [dif_neg H]
    refine via ?_ h
    unfold stSent
    rw [bigSep_Ico_succ_top (Nat.zero_le i), bigSep_Ico_succ_bot hi, show T3 m c i = done m c (tgt c i) from if_pos heq, show T4 m c i = done m c (tgt c i) from if_pos heq]
    iintro ⟨⟨H1, ⟨H2, H3⟩, H4⟩, HR⟩
    isplitr [HR]
    · isplitl [H1]; · iexact H1
      isplitl [H3]; · iexact H3
      isplitl [H2] <;> iassumption
    · iexact HR

/-- What the wait for the `d`-th arrival takes and what it gives. -/
def rcv0 (c : Dev nD) (d : ℕ) : sProp 𝕄 :=
  iprop(atPos ER (dmaCell c (rcvS (fwd c d))) 0 ∅ 0 ∗ cred (tallyAt (dmaCell c (rcvS (fwd c d))) () nBlk))
def rcv1 (c : Dev nD) (d : ℕ) : sProp 𝕄 := iprop(rcvPay m c (fwd c d) ∗ semVal (dmaCell c (rcvS (fwd c d))) 0)
/-- Before the wait for the `d`-th arrival. -/
def stRcv (c : Dev nD) (d : ℕ) : sProp 𝕄 :=
  iprop(ow m K c 0 ∗ bigSep (Finset.Ico d 16) (rcv0 c) ∗ bigSep (Finset.Ico 1 d) (rcv1 m c))

/-- What the text of a wait for an arrival says: on which semaphore, of what. -/
def RcvSite (d : ℕ) (o3 : Dev nD → Fin 1 → ℕ) (o5 : Dev nD → Fin 2 → ℕ) (o6 : Dev nD → Fin 3 → ℕ) : Prop :=
  ∀ c : Dev nD, o3 c = ![(fwd c d).val] ∧ o5 c = ![64 * (fwd c d).val, 0]

/-- The wait for the `d`-th arrival. -/
theorem step_rcv (c : Dev nD) (d : ℕ) (hd : 1 ≤ d ∧ d < 16) {o3 : Dev nD → Fin 1 → ℕ} {o5 : Dev nD → Fin 2 → ℕ} {o6 : Dev nD → Fin 3 → ℕ}
    (hs : RcvSite d o3 o5 o6) {i3} {i5} {i6}
    {k : PUnit → Prog (TpuEff nD τ sig (Elt F) Λ₀ .tc) α}
    (h : iprop(stRcv m K c (d + 1) ∗ R) ⊢ WP c (k ⟨⟩) Q) :
    iprop(stRcv m K c d ∗ R)
      ⊢ WP c (.op (.waitDma2 ((cc0_scratch7.slice (Rect.unit (s := S16) (o3 c) S1.size i3)).squeeze S_ squeezes_S1_S_ : DmaSems sig S_).sem
            ((sM.slice (Rect.unit (s := S16x64x64) (o6 c) S1x64x64.size i6) (fun _ => rfl)).squeeze S64x64 squeezes_S1x64x64_S64x64)
            (oM.slice (Rect.unit (s := S1024x64) (o5 c) S64x64.size i5) (fun _ => rfl))
            ((View.wordExact_bits rfl).reshape _ _) (View.wordExact_bits rfl)) k) Q := by
  obtain ⟨h3, h5⟩ := hs c
  have hne : fwd c d ≠ c := (fwd_ne c ⟨d, hd.2⟩ (fun e => by have := congrArg Fin.val e; simp at this; omega)).symm
  have hcr : ∀ (p5 : Fin 2 → ℕ) (i5 : ∀ a, p5 a + S64x64.size a ≤ S1024x64.size a), p5 = ![64 * (fwd c d).val, 0] →
      (oM.slice (Rect.unit (s := S1024x64) p5 S64x64.size i5) (fun _ => rfl)).view.dmaCredit = amountOf (rcvS (fwd c d)) := by
    intro p5 i5 e; subst e; rw [amount_rcv]; exact credit_rows (fwd c d)
  have hq : ∀ (p3 : Fin 1 → ℕ) (i3 : ∀ a, p3 a + S1.size a ≤ S16.size a), p3 = ![(fwd c d).val] →
      ((cc0_scratch7.slice (Rect.unit (s := S16) p3 S1.size i3)).squeeze S_ squeezes_S1_S_ : DmaSems sig S_).sem = rcvS (fwd c d) := by
    intro p3 i3 e; subst e; exact rcvS_eq _
  refine via ?_ (step_wait (R := iprop(bigSep (Finset.Ico (d + 1) 16) (rcv0 c) ∗ bigSep (Finset.Ico 1 d) (rcv1 m c) ∗ R)) m K c (rcvS (fwd c d)) (hq _ _ h3) (rcvS_ne _)
    (duty_rcv c hne) (hcr _ _ h5) (mayWait_none c _) (via ?_ h))
  · unfold stRcv
    rw [bigSep_Ico_succ_bot hd.2, amount_rcv]
    unfold rcv0
    iintro ⟨⟨H1, ⟨H2, H3⟩, H4⟩, HR⟩
    isplitl [H1]; · iexact H1
    isplitl [H2]; · iexact H2
    isplitl [H3]; · iexact H3
    isplitl [H4] <;> iassumption
  · unfold stRcv
    rw [bigSep_Ico_succ_top hd.1, pay_rcv]
    unfold rcv1
    iintro ⟨H1, ⟨H2, H3⟩, H4, H5, HR⟩
    isplitr [HR]
    · isplitl [H1]; · iexact H1
      isplitl [H4]; · iexact H4
      isplitr [H5]
      · isplitl [H2] <;> iassumption
      iexact H5
    · iexact HR

end Cert.KernelIdealProof

end
-- ==== Proof.KernelIdealBody.lean ====
/-
# `KernelIdealBody`: the kernel's body on one device

The text of the kernel comes in nineteen parts. For each part: what the device holds before it suffices to run it, if
what it holds after it suffices for the rest. Then the body as a whole.
-/
module

public import proofs.«01_k».proof.Proof.KernelIdealSteps
public import proofs.«01_k».proof.Proof.Gen.KernelIdeal.Skeleton

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 36 → ℕ)
variable {α : Type} {R : sProp (MT nD τ sig Unit (Elt F) ℕ UU ℕ)} {Q : α → sProp (MT nD τ sig Unit (Elt F) ℕ UU ℕ)}

/-- What device `c` computes from half `b` of the weights. -/
abbrev yV (c : Dev nD) (b : Fin 2) : FVec F S64x512 .f32 := gelu (xV m c) (wV m c b)

abbrev eM : Memref sig .tc .vmem S14680064 .f32 := Memref.whole cc0_scratch3
variable {h0 : xA.IsWhole} {h1 : wA.IsWhole} {h2 : oM.IsWhole} {h3 : xM.IsWhole} {h4 : wM.IsWhole} {h5 : sM.IsWhole} {h6 : eM.IsWhole}

/-- The end of a part. -/
theorem part_end {c : Dev nD} {a : α} {P : sProp (MT nD τ sig Unit (Elt F) ℕ UU ℕ)} (h : P ⊢ Q a) : P ⊢ WP c (.ret a) Q := by
  show P ⊢ wp frame _ _ (.ret a) Q
  rw [wp_ret]; exact h.trans fupd_intro

/-- The payload of a store, seen as a block. -/
theorem put_eq {y : FVec F S64x512 .f32} {t : Fin 8} {o : Fin 2 → ℕ} {hs : S64x512.Slices o S64x64} (ho : o = ![0, 64 * t.val]) :
    shapeCast S64x64 (shapeCast S1x64x64 (extractStridedSlice S64x64 o y hs) shapeCasts_S64x64_S1x64x64) shapeCasts_S1x64x64_S64x64 = cut t y := by
  subst ho; exact shapeCast_shapeCast _ _ _

/-! What the local copies take and leave. `act` is the copy of the block of `x`, `wgt` the copy of half `b` of the
weights; 0 is before the copy, 1 while it runs, 2 after the wait for it. -/

def act0 (c : Dev nD) (qs : PosShare TreeShare) : sProp 𝕄 :=
  iprop((xA.view.loc (c : Thread nD τ) ↦[xA.view.set]{qs} m ((c : Thread nD τ).loc main_arg0)) ∗ held c xM ∗ dutyTok ER (dmaCell c actS) 0 0)
def act1 (c : Dev nD) : sProp 𝕄 := cred (tallyAt (dmaCell c actS) () (amountOf actS))
def act2 (c : Dev nD) : sProp 𝕄 := iprop(owns (c : Thread nD τ) xM fullShare (xV m c) ∗ semVal (dmaCell c actS) 0)
def actP (c : Dev nD) : sProp 𝕄 := atPos ER (dmaCell c actS) 0 ∅ 0
def wgt0 (c : Dev nD) (b : Fin 2) (qs : PosShare TreeShare) : sProp 𝕄 :=
  iprop(((colsA c b).view.loc (c : Thread nD τ) ↦[(colsA c b).view.set]{qs} m ((c : Thread nD τ).loc main_arg1)) ∗ held c (halfM b) ∗ dutyTok ER (dmaCell c (wgtS b)) 0 0)
def wgt1 (c : Dev nD) (b : Fin 2) : sProp 𝕄 := cred (tallyAt (dmaCell c (wgtS b)) () (amountOf (wgtS b)))
def wgt2 (c : Dev nD) (b : Fin 2) : sProp 𝕄 := iprop(owns (c : Thread nD τ) (halfM b) fullShare (wV m c b) ∗ semVal (dmaCell c (wgtS b)) 0)
def wgtP (c : Dev nD) (b : Fin 2) : sProp 𝕄 := atPos ER (dmaCell c (wgtS b)) 0 ∅ 0
def bar0 (c : Dev nD) : sProp 𝕄 := iprop(atPos ER (barCell c) 0 ∅ 0 ∗ cred (tallyAt (barCell c) () 15))
def bar1 (c : Dev nD) : sProp 𝕄 := iprop((bigSep (Finset.univ.erase c) fun d => held d (rowsM c)) ∗ semVal (barCell c) 0)

theorem step_device {c : Dev nD} {P : sProp (MT nD τ sig Unit (Elt F) ℕ UU ℕ)} {k : Dev nD → Prog (TpuEff nD τ sig (Elt F) Λ₀ .tc) α} (h : P ⊢ WP c (k c) Q) :
    P ⊢ WP c (.op .deviceId k) Q := by
  show P ⊢ wp frame _ _ (.op .deviceId k) Q
  rw [wp_deviceId]; exact h

theorem stSig_end (c : Dev nD) : stSig m K c 16 ⊢ ow m K c (oBlk c 0) := by
  unfold stSig
  rw [oBar_end, add_zero, Finset.Ico_self, bigSep_empty]
  iintro ⟨H1, -⟩; iexact H1

theorem wgtS_ne : ∀ b : Fin 2, (wgtS b).val ≠ 0 := by decide
theorem wgtS_lt : ∀ b : Fin 2, (wgtS b).val < 20 := by decide
theorem wgtS_lv : ∀ (c : Dev nD) (b : Fin 2), lv ((c : Thread nD τ), .dma (wgtS b)) () < 2 := by decide
theorem actS_lv : ∀ c : Dev nD, lv ((c : Thread nD τ), .dma actS) () < 2 := by decide

theorem step_copy_x (c : Dev nD) {qs : PosShare TreeShare} {hsrc} {hdst} {hsem} {k : PUnit → Prog (TpuEff nD τ sig (Elt F) Λ₀ .tc) α} {O : CellTallies nD τ sig Unit}
    (h : iprop(ow m K c O ∗ act1 c ∗ R) ⊢ WP c (k ⟨⟩) Q) :
    iprop(ow m K c O ∗ act0 m c qs ∗ R) ⊢ WP c (.op (.enqueueDma xA (.here xM) (.dma (cc0_scratch5 : DmaSems sig S_).sem) hsrc hdst hsem) k) Q := by
  unfold act0
  refine step_copy m K c actS_eq (by decide) (duty_act c) rfl ?_ h
  rw [pay_act]; exact .rfl

theorem step_copy_w (c : Dev nD) (b : Fin 2) {o : Dev nD → Fin 2 → ℕ} (ho : ∀ c, o c = colOff c b) {q : DmaSem sig} (hq : q = wgtS b)
    {inb} {qs : PosShare TreeShare} {hsrc} {hdst} {hsem} {k : PUnit → Prog (TpuEff nD τ sig (Elt F) Λ₀ .tc) α} {O : CellTallies nD τ sig Unit}
    (h : iprop(ow m K c O ∗ wgt1 c b ∗ R) ⊢ WP c (k ⟨⟩) Q) :
    iprop(ow m K c O ∗ wgt0 m c b qs ∗ R)
      ⊢ WP c (.op (.enqueueDma (wA.slice (Rect.unit (s := S1024x1024) (o c) S1024x512.size inb) (fun _ => rfl)) (.here (halfM b)) (.dma q) hsrc hdst hsem) k) Q := by
  revert inb hsrc hdst hsem; rw [ho c]; intro inb hsrc hdst hsem
  unfold wgt0
  refine step_copy m K c hq (wgtS_ne b) (duty_wgt c b) (by rw [amount_wgt]) ?_ h
  rw [pay_wgt]; exact .rfl

theorem step_wait_x (c : Dev nD) (i : ℕ) {hsrc} {hdst} {k : PUnit → Prog (TpuEff nD τ sig (Elt F) Λ₀ .tc) α}
    (h : iprop(ow m K c (oBlk c i) ∗ act2 m c ∗ R) ⊢ WP c (k ⟨⟩) Q) :
    iprop(ow m K c (oBlk c i) ∗ (actP c ∗ act1 c) ∗ R) ⊢ WP c (.op (.waitDma2 (cc0_scratch5 : DmaSems sig S_).sem xA xM hsrc hdst) k) Q := by
  unfold actP act1
  refine step_wait m K c actS actS_eq (by decide) (duty_act c) rfl (mayWait_blk c _ (actS_lv c) i) ?_
  rw [pay_act]; exact h

theorem step_wait_w (c : Dev nD) (b : Fin 2) (i : ℕ) {q : DmaSem sig} (hq : q = wgtS b) {s : Shape} {sp : Space} {e : EltTy} {src : Memref sig .tc sp s e}
    {hsrc} {hdst} {k : PUnit → Prog (TpuEff nD τ sig (Elt F) Λ₀ .tc) α}
    (h : iprop(ow m K c (oBlk c i) ∗ wgt2 m c b ∗ R) ⊢ WP c (k ⟨⟩) Q) :
    iprop(ow m K c (oBlk c i) ∗ (wgtP c b ∗ wgt1 c b) ∗ R) ⊢ WP c (.op (.waitDma2 q src (halfM b) hsrc hdst) k) Q := by
  unfold wgtP wgt1
  refine step_wait m K c (wgtS b) hq (wgtS_ne b) (duty_wgt c b) (by rw [amount_wgt]) (mayWait_blk c _ (wgtS_lv c b) i) ?_
  rw [pay_wgt]; exact h

theorem step_read_x (c : Dev nD) {i : ℕ} {P : sProp (MT nD τ sig Unit (Elt F) ℕ UU ℕ)} {inb} {hl} {k : Vec F S64x1024 .f32 → Prog (TpuEff nD τ sig (Elt F) Λ₀ .tc) α}
    (h : iprop(ow m K c (oBlk c i) ∗ P ∗ act2 m c ∗ R) ⊢ WP c (k (xV m c)) Q) :
    iprop(ow m K c (oBlk c i) ∗ P ∗ act2 m c ∗ R)
      ⊢ WP c (.op (.load xM (Rect.unit (s := S64x1024) ![0, 0] S64x1024.size inb).toLoadRect hl) k) Q := by
  unfold act2 at h ⊢
  refine via ?_ (step_load_x (R := iprop(ow m K c (oBlk c i) ∗ P ∗ semVal (dmaCell c actS) 0 ∗ R)) c (via ?_ h))
  · iintro ⟨H1, H2, ⟨H3, H4⟩, HR⟩
    isplitl [H3]; · iexact H3
    isplitl [H1]; · iexact H1
    isplitl [H2]; · iexact H2
    isplitl [H4]; · iexact H4
    iexact HR
  · iintro ⟨H3, H1, H2, H4, HR⟩
    isplitl [H1]; · iexact H1
    isplitl [H2]; · iexact H2
    isplitl [H3 H4]
    · isplitl [H3]; · iexact H3
      iexact H4
    iexact HR

theorem step_read_w (c : Dev nD) (b : Fin 2) {i : ℕ} {off : Fin 3 → ℕ} (ho : off = ![b.val, 0, 0]) {inb} {hl}
    {k : Vec F S1x1024x512 .f32 → Prog (TpuEff nD τ sig (Elt F) Λ₀ .tc) α}
    (h : ∀ V : Vec F S1x1024x512 .f32, shapeCast S1024x512 V shapeCasts_S1x1024x512_S1024x512 = wV m c b →
      iprop(ow m K c (oBlk c i) ∗ wgt2 m c b ∗ R) ⊢ WP c (k V) Q) :
    iprop(ow m K c (oBlk c i) ∗ wgt2 m c b ∗ R)
      ⊢ WP c (.op (.load wM (Rect.unit (s := S2x1024x512) off S1x1024x512.size inb).toLoadRect hl) k) Q := by
  unfold wgt2 at h ⊢
  refine via ?_ (step_load_w (R := iprop(ow m K c (oBlk c i) ∗ semVal (dmaCell c (wgtS b)) 0 ∗ R)) c b ho fun V hV => via ?_ (h V hV))
  · iintro ⟨H1, ⟨H3, H4⟩, HR⟩
    isplitl [H3]; · iexact H3
    isplitl [H1]; · iexact H1
    isplitl [H4]; · iexact H4
    iexact HR
  · iintro ⟨H3, H1, H4, HR⟩
    isplitl [H1]; · iexact H1
    isplitl [H3 H4]
    · isplitl [H3]; · iexact H3
      iexact H4
    iexact HR

/-- All sends waited for, the waits for the others' blocks begin. -/
theorem stRcv_start (c : Dev nD) :
    iprop(stSent m K c 16 ∗ (bigSep (Finset.Ico 1 16) (rcv0 c)) ∗ R) ⊢ iprop(stRcv m K c 1 ∗ (bigSep (Finset.Ico 0 16) (T4 m c)) ∗ R) := by
  unfold stSent stRcv
  rw [Finset.Ico_self, Finset.Ico_self, bigSep_empty, bigSep_empty]
  iintro ⟨⟨H1, -, H2⟩, H3, HR⟩
  isplitl [H1 H3]
  · isplitl [H1]; · iexact H1
    isplitl [H3]; · iexact H3
    iempintro
  isplitl [H2]; · iexact H2
  iexact HR

attribute [local irreducible] wp

theorem part1 (c : Dev nD) {Q : _ → sProp 𝕄} (h : ∀ a b d, iprop(stSig m K c 6 ∗ R) ⊢ Q ⟨c, a, SemArray.scalar (sig.barrier 0 rfl), b, d⟩) :
    iprop(stSig m K c 1 ∗ R) ⊢ WP c (k0_part1 xA h0 wA h1 oM h2 xM h3 wM h4 sM h5 eM h6 cc0_scratch4 cc0_scratch5 cc0_scratch6 cc0_scratch7) Q := by
  rw [k0_part1_eq_skeleton]; unfold k0_part1_skel
  simp -zeta -zetaHave -proj only [Prog.lift, Prog.bind_op, Prog.bind_ret, Prog.pure_eq_ret, semSignalWord]
  refine step_device ?_
  refine step_signal m K c 1 (by decide) (dev := k0_dev1) (by decide +kernel) rfl rfl ?_
  refine step_signal m K c 2 (by decide) (dev := k0_dev2) (by decide +kernel) rfl rfl ?_
  refine step_signal m K c 3 (by decide) (dev := k0_dev3) (by decide +kernel) rfl rfl ?_
  refine step_signal m K c 4 (by decide) (dev := k0_dev4) (by decide +kernel) rfl rfl ?_
  refine step_signal m K c 5 (by decide) (dev := k0_dev5) (by decide +kernel) rfl rfl ?_
  exact part_end (h _ _ _)

theorem part2 (c : Dev nD) {v2 a1 a2} {Q : _ → sProp 𝕄} (h : ∀ r, iprop(stSig m K c 12 ∗ R) ⊢ Q r) :
    iprop(stSig m K c 6 ∗ R) ⊢ WP c (k0_part2 xA h0 wA h1 oM h2 xM h3 wM h4 sM h5 eM h6 cc0_scratch4 cc0_scratch5 cc0_scratch6 cc0_scratch7 c v2 (SemArray.scalar (sig.barrier 0 rfl)) a1 a2) Q := by
  rw [k0_part2_eq_skeleton]; unfold k0_part2_skel
  simp -zeta -zetaHave -proj only [Prog.lift, Prog.bind_op, Prog.bind_ret, Prog.pure_eq_ret, semSignalWord]
  refine step_signal m K c 6 (by decide) (dev := k0_dev6) (by decide +kernel) rfl rfl ?_
  refine step_signal m K c 7 (by decide) (dev := k0_dev7) (by decide +kernel) rfl rfl ?_
  refine step_signal m K c 8 (by decide) (dev := k0_dev8) (by decide +kernel) rfl rfl ?_
  refine step_signal m K c 9 (by decide) (dev := k0_dev9) (by decide +kernel) rfl rfl ?_
  refine step_signal m K c 10 (by decide) (dev := k0_dev10) (by decide +kernel) rfl rfl ?_
  refine step_signal m K c 11 (by decide) (dev := k0_dev11) (by decide +kernel) rfl rfl ?_
  exact part_end (h _)

theorem part3 (c : Dev nD) {v2 a1 a2} {qs : PosShare TreeShare} {Q : _ → sProp 𝕄} (h : ∀ r, iprop(ow m K c (oBlk c 0) ∗ act1 c ∗ R) ⊢ Q r) :
    iprop(stSig m K c 12 ∗ act0 m c qs ∗ R) ⊢ WP c (k0_part3 xA h0 wA h1 oM h2 xM h3 wM h4 sM h5 eM h6 cc0_scratch4 cc0_scratch5 cc0_scratch6 cc0_scratch7 c v2 (SemArray.scalar (sig.barrier 0 rfl)) a1 a2) Q := by
  rw [k0_part3_eq_skeleton]; unfold k0_part3_skel
  simp -zeta -zetaHave -proj only [Prog.lift, Prog.bind_op, Prog.bind_ret, Prog.pure_eq_ret, semSignalWord]
  refine step_signal m K c 12 (by decide) (dev := k0_dev12) (by decide +kernel) rfl rfl ?_
  refine step_signal m K c 13 (by decide) (dev := k0_dev13) (by decide +kernel) rfl rfl ?_
  refine step_signal m K c 14 (by decide) (dev := k0_dev14) (by decide +kernel) rfl rfl ?_
  refine step_signal m K c 15 (by decide) (dev := k0_dev15) (by decide +kernel) rfl rfl ?_
  refine via (sep_mono_left (stSig_end m K c)) ?_
  refine step_copy_x m K c ?_
  exact part_end (h _)

theorem part4 (c : Dev nD) {v2 a1 a2 a3} {qs : PosShare TreeShare} {Q : _ → sProp 𝕄} (h : ∀ r, iprop(ow m K c (oBlk c 0) ∗ wgt1 c 0 ∗ R) ⊢ Q r) :
    iprop(ow m K c (oBlk c 0) ∗ wgt0 m c 0 qs ∗ R) ⊢ WP c (k0_part4 xA h0 wA h1 oM h2 xM h3 wM h4 sM h5 eM h6 cc0_scratch4 cc0_scratch5 cc0_scratch6 cc0_scratch7 c v2 a1 a2 a3) Q := by
  rw [k0_part4_eq_skeleton]; unfold k0_part4_skel
  simp -zeta -zetaHave -proj only [Prog.lift, Prog.bind_op, Prog.bind_ret, Prog.pure_eq_ret]
  refine step_copy_w m K c 0 (o := fun c => k0_off1 c 0#32) (by decide +kernel) rfl ?_
  exact part_end (h _)

theorem part5 (c : Dev nD) {v2} {qs : PosShare TreeShare} {Q : _ → sProp 𝕄}
    (h : ∀ a b d e f, iprop(ow m K c (oBlk c 0) ∗ bar1 c ∗ act2 m c ∗ wgt2 m c 0 ∗ wgt1 c 1 ∗ R) ⊢ Q ⟨yV m c 0, a, b, d, e, f⟩) :
    iprop(ow m K c (oBlk c 0) ∗ wgt0 m c 1 qs ∗ (actP c ∗ act1 c) ∗ (wgtP c 0 ∗ wgt1 c 0) ∗ bar0 c ∗ R)
      ⊢ WP c (k0_part5 xA h0 wA h1 oM h2 xM h3 wM h4 sM h5 eM h6 cc0_scratch4 cc0_scratch5 cc0_scratch6 cc0_scratch7 c v2 (SemArray.scalar (sig.barrier 0 rfl))) Q := by
  rw [k0_part5_eq_skeleton]; unfold k0_part5_skel
  simp -zeta -zetaHave -proj only [Prog.lift, Prog.bind_op, Prog.bind_ret, Prog.pure_eq_ret, semWaitWord]
  refine step_copy_w m K c 1 (o := fun c => k0_off1 c 1#32) (by decide +kernel) rfl ?_
  refine via (P' := iprop(ow m K c (oBlk c 0) ∗ (actP c ∗ act1 c) ∗ (wgtP c 0 ∗ wgt1 c 0) ∗ bar0 c ∗ wgt1 c 1 ∗ R)) ?_ ?_
  · iintro ⟨H1, H2, H3, H4, H5, HR⟩
    isplitl [H1]; · iexact H1
    isplitl [H3]; · iexact H3
    isplitl [H4]; · iexact H4
    isplitl [H5]; · iexact H5
    isplitl [H2]; · iexact H2
    iexact HR
  refine step_wait_x m K c 0 ?_
  refine via (P' := iprop(ow m K c (oBlk c 0) ∗ (wgtP c 0 ∗ wgt1 c 0) ∗ act2 m c ∗ bar0 c ∗ wgt1 c 1 ∗ R)) ?_ ?_
  · iintro ⟨H1, H2, H3, HR⟩
    isplitl [H1]; · iexact H1
    isplitl [H3]; · iexact H3
    isplitl [H2]; · iexact H2
    iexact HR
  refine step_wait_w m K c 0 0 rfl ?_
  refine step_read_x m K c ?_
  refine step_read_w m K c 0 (by decide) fun V hV => ?_
  refine via (P' := iprop(ow m K c (oBlk c 0) ∗ bar0 c ∗ wgt2 m c 0 ∗ act2 m c ∗ wgt1 c 1 ∗ R)) ?_ ?_
  · iintro ⟨H1, H2, H3, H4, HR⟩
    isplitl [H1]; · iexact H1
    isplitl [H4]; · iexact H4
    isplitl [H2]; · iexact H2
    isplitl [H3]; · iexact H3
    iexact HR
  refine step_barrier m K c rfl ?_
  refine part_end (via ?_ (show iprop(ow m K c (oBlk c 0) ∗ bar1 c ∗ act2 m c ∗ wgt2 m c 0 ∗ wgt1 c 1 ∗ R) ⊢ Q ⟨k0_pay1 (xV m c) V, _, _, _, _, _⟩ from ?_))
  · unfold bar1
    iintro ⟨H1, H2, H3, H4, HR⟩
    isplitl [H1]; · iexact H1
    isplitl [H2]; · iexact H2
    isplitl [H4]; · iexact H4
    isplitl [H3]; · iexact H3
    iexact HR
  · have e : k0_pay1 (xV m c) V = yV m c 0 := by unfold yV; rw [← hV]; rfl
    rw [e]; exact h _ _ _ _ _

theorem part6 (c : Dev nD) {v2 a1 a2 a3 a4 a5} {Q : _ → sProp 𝕄} (h : ∀ r, iprop(stOwn m K c 1 ∗ R) ⊢ Q r) :
    iprop(stPut m K c 0 ∗ R) ⊢ WP c (k0_part6 xA h0 wA h1 oM h2 xM h3 wM h4 sM h5 eM h6 cc0_scratch4 cc0_scratch5 cc0_scratch6 cc0_scratch7 c v2 (yV m c 0) a1 a2 a3 a4 a5) Q := by
  rw [k0_part6_eq_skeleton]; unfold k0_part6_skel
  simp -zeta -zetaHave -proj only [Prog.lift, Prog.bind_op, Prog.bind_ret, Prog.pure_eq_ret]
  refine step_put m K c 0 (by decide) (o := fun c => k0_off2 c 0#32 0#32) (by decide +kernel) (put_eq (y := yV m c 0) (t := 0) (o := ![0, 0]) rfl) ?_
  refine step_send m K c 0 (by decide) (show SendSite 0 k0_cond1 k0_dev16 k0_off3 k0_off4 k0_off5 k0_off6 by unfold SendSite; decide +kernel) ?_
  refine step_own m K c 0 (by decide) (show OwnSite 0 k0_cond2 k0_off7 k0_off8 by unfold OwnSite; decide +kernel) (fun _ => rfl) ?_
  refine step_put m K c 1 (by decide) (o := fun c => k0_off2 c 0#32 1#32) (by decide +kernel) (put_eq (y := yV m c 0) (t := 1) (o := ![0, 64]) rfl) ?_
  refine step_send m K c 1 (by decide) (show SendSite 1 k0_cond3 k0_dev17 k0_off9 k0_off10 k0_off11 k0_off12 by unfold SendSite; decide +kernel) ?_
  exact part_end (h _)

theorem part7 (c : Dev nD) {v2 a1 a2 a3} {Q : _ → sProp 𝕄} (h : ∀ a b d, iprop(stPut m K c 4 ∗ R) ⊢ Q ⟨a, b, d, k0_pay10 (yV m c 0)⟩) :
    iprop(stOwn m K c 1 ∗ R) ⊢ WP c (k0_part7 xA h0 wA h1 oM h2 xM h3 wM h4 sM h5 eM h6 cc0_scratch4 cc0_scratch5 cc0_scratch6 cc0_scratch7 c v2 (yV m c 0) a1 a2 a3) Q := by
  rw [k0_part7_eq_skeleton]; unfold k0_part7_skel
  simp -zeta -zetaHave -proj only [Prog.lift, Prog.bind_op, Prog.bind_ret, Prog.pure_eq_ret]
  refine step_own m K c 1 (by decide) (show OwnSite 1 k0_cond4 k0_off13 k0_off14 by unfold OwnSite; decide +kernel) (fun _ => rfl) ?_
  refine step_put m K c 2 (by decide) (o := fun c => k0_off2 c 0#32 2#32) (by decide +kernel) (put_eq (y := yV m c 0) (t := 2) (o := ![0, 128]) rfl) ?_
  refine step_send m K c 2 (by decide) (show SendSite 2 k0_cond5 k0_dev18 k0_off15 k0_off16 k0_off17 k0_off18 by unfold SendSite; decide +kernel) ?_
  refine step_own m K c 2 (by decide) (show OwnSite 2 k0_cond6 k0_off19 k0_off20 by unfold OwnSite; decide +kernel) (fun _ => rfl) ?_
  refine step_put m K c 3 (by decide) (o := fun c => k0_off2 c 0#32 3#32) (by decide +kernel) (put_eq (y := yV m c 0) (t := 3) (o := ![0, 192]) rfl) ?_
  refine step_send m K c 3 (by decide) (show SendSite 3 k0_cond7 k0_dev19 k0_off21 k0_off22 k0_off23 k0_off24 by unfold SendSite; decide +kernel) ?_
  refine step_own m K c 3 (by decide) (show OwnSite 3 k0_cond8 k0_off25 k0_off26 by unfold OwnSite; decide +kernel) (fun _ => rfl) ?_
  exact part_end (h _ _ _)

theorem part8 (c : Dev nD) {v2 a1 a2} {Q : _ → sProp 𝕄} (h : ∀ r, iprop(stOwn m K c 6 ∗ R) ⊢ Q r) :
    iprop(stPut m K c 4 ∗ R) ⊢ WP c (k0_part8 xA h0 wA h1 oM h2 xM h3 wM h4 sM h5 eM h6 cc0_scratch4 cc0_scratch5 cc0_scratch6 cc0_scratch7 c v2 (yV m c 0) a1 a2 (k0_pay10 (yV m c 0))) Q := by
  rw [k0_part8_eq_skeleton]; unfold k0_part8_skel
  simp -zeta -zetaHave -proj only [Prog.lift, Prog.bind_op, Prog.bind_ret, Prog.pure_eq_ret]
  refine step_put m K c 4 (by decide) (o := fun c => k0_off2 c 0#32 4#32) (by decide +kernel) (put_eq (y := yV m c 0) (t := 4) (o := ![0, 256]) (hs := cut_slices 4) rfl) ?_
  refine step_send m K c 4 (by decide) (show SendSite 4 k0_cond9 k0_dev20 k0_off27 k0_off28 k0_off29 k0_off30 by unfold SendSite; decide +kernel) ?_
  refine step_own m K c 4 (by decide) (show OwnSite 4 k0_cond10 k0_off31 k0_off32 by unfold OwnSite; decide +kernel) (fun _ => rfl) ?_
  refine step_put m K c 5 (by decide) (o := fun c => k0_off2 c 0#32 5#32) (by decide +kernel) (put_eq (y := yV m c 0) (t := 5) (o := ![0, 320]) rfl) ?_
  refine step_send m K c 5 (by decide) (show SendSite 5 k0_cond11 k0_dev21 k0_off33 k0_off34 k0_off35 k0_off36 by unfold SendSite; decide +kernel) ?_
  refine step_own m K c 5 (by decide) (show OwnSite 5 k0_cond12 k0_off37 k0_off38 by unfold OwnSite; decide +kernel) (fun _ => rfl) ?_
  refine step_put m K c 6 (by decide) (o := fun c => k0_off2 c 0#32 6#32) (by decide +kernel) (put_eq (y := yV m c 0) (t := 6) (o := ![0, 384]) rfl) ?_
  refine step_send m K c 6 (by decide) (show SendSite 6 k0_cond13 k0_dev22 k0_off39 k0_off40 k0_off41 k0_off42 by unfold SendSite; decide +kernel) ?_
  exact part_end (h _)

theorem part9 (c : Dev nD) {v2 a1 a2 a3} {Q : _ → sProp 𝕄}
    (h : ∀ a V, shapeCast S1024x512 V shapeCasts_S1x1024x512_S1024x512 = wV m c 1 →
      iprop(stPut m K c 8 ∗ wgt2 m c 1 ∗ act2 m c ∗ R) ⊢ Q ⟨a, k0_pay20 (xV m c) V, k0_pay21 (xV m c) V, k0_pay22⟩) :
    iprop(stOwn m K c 6 ∗ (wgtP c 1 ∗ wgt1 c 1) ∗ act2 m c ∗ R) ⊢ WP c (k0_part9 xA h0 wA h1 oM h2 xM h3 wM h4 sM h5 eM h6 cc0_scratch4 cc0_scratch5 cc0_scratch6 cc0_scratch7 c v2 (yV m c 0) a1 a2 a3) Q := by
  rw [k0_part9_eq_skeleton]; unfold k0_part9_skel
  simp -zeta -zetaHave -proj only [Prog.lift, Prog.bind_op, Prog.bind_ret, Prog.pure_eq_ret]
  refine step_own m K c 6 (by decide) (show OwnSite 6 k0_cond14 k0_off43 k0_off44 by unfold OwnSite; decide +kernel) (fun _ => rfl) ?_
  refine step_put m K c 7 (by decide) (o := fun c => k0_off2 c 0#32 7#32) (by decide +kernel) (put_eq (y := yV m c 0) (t := 7) (o := ![0, 448]) rfl) ?_
  refine step_send m K c 7 (by decide) (show SendSite 7 k0_cond15 k0_dev23 k0_off45 k0_off46 k0_off47 k0_off48 by unfold SendSite; decide +kernel) ?_
  refine step_own m K c 7 (by decide) (show OwnSite 7 k0_cond16 k0_off49 k0_off50 by unfold OwnSite; decide +kernel) (fun _ => rfl) ?_
  refine via (P' := iprop(ow m K c (oBlk c 8) ∗ (wgtP c 1 ∗ wgt1 c 1) ∗ act2 m c ∗ (bigSep (Finset.Ico 8 16) (T0 c) ∗ bigSep (Finset.Ico 0 8) (T3 m c)) ∗ R)) ?_ ?_
  · unfold stPut
    iintro ⟨⟨H1, H2⟩, H3, H4, HR⟩
    isplitl [H1]; · iexact H1
    isplitl [H3]; · iexact H3
    isplitl [H4]; · iexact H4
    isplitl [H2]; · iexact H2
    iexact HR
  refine step_wait_w m K c 1 8 rfl ?_
  refine step_read_x m K c ?_
  refine step_read_w m K c 1 (by decide) fun V hV => ?_
  refine part_end (via ?_ (h _ V hV))
  unfold stPut
  iintro ⟨H1, H3, H4, H2, HR⟩
  isplitl [H1 H2]
  · isplitl [H1]; · iexact H1
    iexact H2
  isplitl [H3]; · iexact H3
  isplitl [H4]; · iexact H4
  iexact HR

theorem part10 (c : Dev nD) {v2} {V : Vec F S1x1024x512 .f32} (hV : shapeCast S1024x512 V shapeCasts_S1x1024x512_S1024x512 = wV m c 1)
    {Q : _ → sProp 𝕄} (h : ∀ a b, iprop(stPut m K c 9 ∗ R) ⊢ Q ⟨yV m c 1, a, b⟩) :
    iprop(stPut m K c 8 ∗ R) ⊢ WP c (k0_part10 xA h0 wA h1 oM h2 xM h3 wM h4 sM h5 eM h6 cc0_scratch4 cc0_scratch5 cc0_scratch6 cc0_scratch7 c v2 (k0_pay20 (xV m c) V) (k0_pay21 (xV m c) V) k0_pay22) Q := by
  have e : k0_pay23 (k0_pay20 (xV m c) V) (k0_pay21 (xV m c) V) k0_pay22 = yV m c 1 := by unfold yV; rw [← hV]; rfl
  rw [k0_part10_eq_skeleton]; unfold k0_part10_skel
  simp -zeta -zetaHave -proj only [Prog.lift, Prog.bind_op, Prog.bind_ret, Prog.pure_eq_ret, k0_pay24, e]
  refine step_put m K c 8 (by decide) (o := fun c => k0_off2 c 1#32 0#32) (by decide +kernel) (put_eq (y := yV m c 1) (t := 0) (o := ![0, 0]) rfl) ?_
  refine step_send m K c 8 (by decide) (show SendSite 8 k0_cond17 k0_dev24 k0_off51 k0_off52 k0_off53 k0_off54 by unfold SendSite; decide +kernel) ?_
  refine step_own m K c 8 (by decide) (show OwnSite 8 k0_cond18 k0_off55 k0_off56 by unfold OwnSite; decide +kernel) (fun _ => rfl) ?_
  exact part_end (h _ _)

theorem part11 (c : Dev nD) {v2 a1} {Q : _ → sProp 𝕄} (h : ∀ r, iprop(stSend m K c 11 ∗ R) ⊢ Q r) :
    iprop(stPut m K c 9 ∗ R) ⊢ WP c (k0_part11 xA h0 wA h1 oM h2 xM h3 wM h4 sM h5 eM h6 cc0_scratch4 cc0_scratch5 cc0_scratch6 cc0_scratch7 c v2 (yV m c 1) a1) Q := by
  rw [k0_part11_eq_skeleton]; unfold k0_part11_skel
  simp -zeta -zetaHave -proj only [Prog.lift, Prog.bind_op, Prog.bind_ret, Prog.pure_eq_ret]
  refine step_put m K c 9 (by decide) (o := fun c => k0_off2 c 1#32 1#32) (by decide +kernel) (put_eq (y := yV m c 1) (t := 1) (o := ![0, 64]) rfl) ?_
  refine step_send m K c 9 (by decide) (show SendSite 9 k0_cond19 k0_dev25 k0_off57 k0_off58 k0_off59 k0_off60 by unfold SendSite; decide +kernel) ?_
  refine step_own m K c 9 (by decide) (show OwnSite 9 k0_cond20 k0_off61 k0_off62 by unfold OwnSite; decide +kernel) (fun _ => rfl) ?_
  refine step_put m K c 10 (by decide) (o := fun c => k0_off2 c 1#32 2#32) (by decide +kernel) (put_eq (y := yV m c 1) (t := 2) (o := ![0, 128]) rfl) ?_
  refine step_send m K c 10 (by decide) (show SendSite 10 k0_cond21 k0_dev26 k0_off63 k0_off64 k0_off65 k0_off66 by unfold SendSite; decide +kernel) ?_
  refine step_own m K c 10 (by decide) (show OwnSite 10 k0_cond22 k0_off67 k0_off68 by unfold OwnSite; decide +kernel) (fun _ => rfl) ?_
  refine step_put m K c 11 (by decide) (o := fun c => k0_off2 c 1#32 3#32) (by decide +kernel) (put_eq (y := yV m c 1) (t := 3) (o := ![0, 192]) rfl) ?_
  exact part_end (h _)

theorem part12 (c : Dev nD) {v2 a1 a2} {Q : _ → sProp 𝕄} (h : ∀ r, iprop(stPut m K c 14 ∗ R) ⊢ Q r) :
    iprop(stSend m K c 11 ∗ R) ⊢ WP c (k0_part12 xA h0 wA h1 oM h2 xM h3 wM h4 sM h5 eM h6 cc0_scratch4 cc0_scratch5 cc0_scratch6 cc0_scratch7 c v2 (yV m c 1) a1 a2) Q := by
  rw [k0_part12_eq_skeleton]; unfold k0_part12_skel
  simp -zeta -zetaHave -proj only [Prog.lift, Prog.bind_op, Prog.bind_ret, Prog.pure_eq_ret]
  refine step_send m K c 11 (by decide) (show SendSite 11 k0_cond23 k0_dev27 k0_off69 k0_off70 k0_off71 k0_off72 by unfold SendSite; decide +kernel) ?_
  refine step_own m K c 11 (by decide) (show OwnSite 11 k0_cond24 k0_off73 k0_off74 by unfold OwnSite; decide +kernel) (fun _ => rfl) ?_
  refine step_put m K c 12 (by decide) (o := fun c => k0_off2 c 1#32 4#32) (by decide +kernel) (put_eq (y := yV m c 1) (t := 4) (o := ![0, 256]) rfl) ?_
  refine step_send m K c 12 (by decide) (show SendSite 12 k0_cond25 k0_dev28 k0_off75 k0_off76 k0_off77 k0_off78 by unfold SendSite; decide +kernel) ?_
  refine step_own m K c 12 (by decide) (show OwnSite 12 k0_cond26 k0_off79 k0_off80 by unfold OwnSite; decide +kernel) (fun _ => rfl) ?_
  refine step_put m K c 13 (by decide) (o := fun c => k0_off2 c 1#32 5#32) (by decide +kernel) (put_eq (y := yV m c 1) (t := 5) (o := ![0, 320]) rfl) ?_
  refine step_send m K c 13 (by decide) (show SendSite 13 k0_cond27 k0_dev29 k0_off81 k0_off82 k0_off83 k0_off84 by unfold SendSite; decide +kernel) ?_
  refine step_own m K c 13 (by decide) (show OwnSite 13 k0_cond28 k0_off85 k0_off86 by unfold OwnSite; decide +kernel) (fun _ => rfl) ?_
  exact part_end (h _)

theorem part13 (c : Dev nD) {v2 a1 a2 a3 a4} {Q : _ → sProp 𝕄} (h : ∀ r, iprop(stSent m K c 2 ∗ R) ⊢ Q r) :
    iprop(stPut m K c 14 ∗ R) ⊢ WP c (k0_part13 xA h0 wA h1 oM h2 xM h3 wM h4 sM h5 eM h6 cc0_scratch4 cc0_scratch5 cc0_scratch6 cc0_scratch7 c v2 a1 a2 a3 (yV m c 1) a4) Q := by
  rw [k0_part13_eq_skeleton]; unfold k0_part13_skel
  simp -zeta -zetaHave -proj only [Prog.lift, Prog.bind_op, Prog.bind_ret, Prog.pure_eq_ret]
  refine step_put m K c 14 (by decide) (o := fun c => k0_off2 c 1#32 6#32) (by decide +kernel) (put_eq (y := yV m c 1) (t := 6) (o := ![0, 384]) rfl) ?_
  refine step_send m K c 14 (by decide) (show SendSite 14 k0_cond29 k0_dev30 k0_off87 k0_off88 k0_off89 k0_off90 by unfold SendSite; decide +kernel) ?_
  refine step_own m K c 14 (by decide) (show OwnSite 14 k0_cond30 k0_off91 k0_off92 by unfold OwnSite; decide +kernel) (fun _ => rfl) ?_
  refine step_put m K c 15 (by decide) (o := fun c => k0_off2 c 1#32 7#32) (by decide +kernel) (put_eq (y := yV m c 1) (t := 7) (o := ![0, 448]) rfl) ?_
  refine step_send m K c 15 (by decide) (show SendSite 15 k0_cond31 k0_dev31 k0_off93 k0_off94 k0_off95 k0_off96 by unfold SendSite; decide +kernel) ?_
  refine step_own m K c 15 (by decide) (show OwnSite 15 k0_cond32 k0_off97 k0_off98 by unfold OwnSite; decide +kernel) (fun _ => rfl) ?_
  refine via (sep_mono_left (stSent_start m K c)) ?_
  refine step_sent m K c 0 (by decide) (show SentSite 0 k0_cond33 k0_off99 k0_off101 k0_off100 by unfold SentSite; decide +kernel) ?_
  refine step_sent m K c 1 (by decide) (show SentSite 1 k0_cond34 k0_off102 k0_off104 k0_off103 by unfold SentSite; decide +kernel) ?_
  exact part_end (h _)

theorem part14 (c : Dev nD) {v2 a1 a2 a3 a4 a5 a6 a7 a8 a9 a10 a11 a12 a13} {Q : _ → sProp 𝕄} (h : ∀ r, iprop(stSent m K c 14 ∗ R) ⊢ Q r) :
    iprop(stSent m K c 2 ∗ R) ⊢ WP c (k0_part14 xA h0 wA h1 oM h2 xM h3 wM h4 sM h5 eM h6 cc0_scratch4 cc0_scratch5 cc0_scratch6 cc0_scratch7 c v2 a1 a2 a3 a4 a5 a6 a7 a8 a9 a10 a11 a12 a13) Q := by
  rw [k0_part14_eq_skeleton]; unfold k0_part14_skel
  simp -zeta -zetaHave -proj only [Prog.lift, Prog.bind_op, Prog.bind_ret, Prog.pure_eq_ret]
  refine step_sent m K c 2 (by decide) (show SentSite 2 k0_cond35 k0_off105 k0_off107 k0_off106 by unfold SentSite; decide +kernel) ?_
  refine step_sent m K c 3 (by decide) (show SentSite 3 k0_cond36 k0_off108 k0_off110 k0_off109 by unfold SentSite; decide +kernel) ?_
  refine step_sent m K c 4 (by decide) (show SentSite 4 k0_cond37 k0_off111 k0_off113 k0_off112 by unfold SentSite; decide +kernel) ?_
  refine step_sent m K c 5 (by decide) (show SentSite 5 k0_cond38 k0_off114 k0_off116 k0_off115 by unfold SentSite; decide +kernel) ?_
  refine step_sent m K c 6 (by decide) (show SentSite 6 k0_cond39 k0_off117 k0_off119 k0_off118 by unfold SentSite; decide +kernel) ?_
  refine step_sent m K c 7 (by decide) (show SentSite 7 k0_cond40 k0_off120 k0_off122 k0_off121 by unfold SentSite; decide +kernel) ?_
  refine step_sent m K c 8 (by decide) (show SentSite 8 k0_cond41 k0_off123 k0_off125 k0_off124 by unfold SentSite; decide +kernel) ?_
  refine step_sent m K c 9 (by decide) (show SentSite 9 k0_cond42 k0_off126 k0_off128 k0_off127 by unfold SentSite; decide +kernel) ?_
  refine step_sent m K c 10 (by decide) (show SentSite 10 k0_cond43 k0_off129 k0_off131 k0_off130 by unfold SentSite; decide +kernel) ?_
  refine step_sent m K c 11 (by decide) (show SentSite 11 k0_cond44 k0_off132 k0_off134 k0_off133 by unfold SentSite; decide +kernel) ?_
  refine step_sent m K c 12 (by decide) (show SentSite 12 k0_cond45 k0_off135 k0_off137 k0_off136 by unfold SentSite; decide +kernel) ?_
  refine step_sent m K c 13 (by decide) (show SentSite 13 k0_cond46 k0_off138 k0_off140 k0_off139 by unfold SentSite; decide +kernel) ?_
  exact part_end (h _)

theorem part15 (c : Dev nD) {v2 a1 a2} {Q : _ → sProp 𝕄} (h : ∀ r, iprop(stRcv m K c 3 ∗ (bigSep (Finset.Ico 0 16) (T4 m c)) ∗ R) ⊢ Q r) :
    iprop(stSent m K c 14 ∗ (bigSep (Finset.Ico 1 16) (rcv0 c)) ∗ R) ⊢ WP c (k0_part15 xA h0 wA h1 oM h2 xM h3 wM h4 sM h5 eM h6 cc0_scratch4 cc0_scratch5 cc0_scratch6 cc0_scratch7 c v2 a1 a2) Q := by
  rw [k0_part15_eq_skeleton]; unfold k0_part15_skel
  simp -zeta -zetaHave -proj only [Prog.lift, Prog.bind_op, Prog.bind_ret, Prog.pure_eq_ret]
  refine step_sent m K c 14 (by decide) (show SentSite 14 k0_cond47 k0_off141 k0_off143 k0_off142 by unfold SentSite; decide +kernel) ?_
  refine step_sent m K c 15 (by decide) (show SentSite 15 k0_cond48 k0_off144 k0_off146 k0_off145 by unfold SentSite; decide +kernel) ?_
  refine via (stRcv_start m K c) ?_
  refine step_rcv m K c 1 (by decide) (show RcvSite 1 (fun c => k0_off147 c 1#32) (fun c => k0_off148 c 1#32) (fun c => k0_off149 c 1#32) by unfold RcvSite; decide +kernel) ?_
  refine step_rcv m K c 2 (by decide) (show RcvSite 2 (fun c => k0_off147 c 2#32) (fun c => k0_off148 c 2#32) (fun c => k0_off149 c 2#32) by unfold RcvSite; decide +kernel) ?_
  exact part_end (h _)

theorem part16 (c : Dev nD) {v2} {Q : _ → sProp 𝕄} (h : ∀ r, iprop(stRcv m K c 6 ∗ R) ⊢ Q r) :
    iprop(stRcv m K c 3 ∗ R) ⊢ WP c (k0_part16 xA h0 wA h1 oM h2 xM h3 wM h4 sM h5 eM h6 cc0_scratch4 cc0_scratch5 cc0_scratch6 cc0_scratch7 c v2) Q := by
  rw [k0_part16_eq_skeleton]; unfold k0_part16_skel
  simp -zeta -zetaHave -proj only [Prog.lift, Prog.bind_op, Prog.bind_ret, Prog.pure_eq_ret]
  refine step_rcv m K c 3 (by decide) (show RcvSite 3 (fun c => k0_off147 c 3#32) (fun c => k0_off148 c 3#32) (fun c => k0_off149 c 3#32) by unfold RcvSite; decide +kernel) ?_
  refine step_rcv m K c 4 (by decide) (show RcvSite 4 (fun c => k0_off147 c 4#32) (fun c => k0_off148 c 4#32) (fun c => k0_off149 c 4#32) by unfold RcvSite; decide +kernel) ?_
  refine step_rcv m K c 5 (by decide) (show RcvSite 5 (fun c => k0_off147 c 5#32) (fun c => k0_off148 c 5#32) (fun c => k0_off149 c 5#32) by unfold RcvSite; decide +kernel) ?_
  exact part_end (h _)

theorem part17 (c : Dev nD) {v2} {Q : _ → sProp 𝕄} (h : ∀ r, iprop(stRcv m K c 10 ∗ R) ⊢ Q r) :
    iprop(stRcv m K c 6 ∗ R) ⊢ WP c (k0_part17 xA h0 wA h1 oM h2 xM h3 wM h4 sM h5 eM h6 cc0_scratch4 cc0_scratch5 cc0_scratch6 cc0_scratch7 c v2) Q := by
  rw [k0_part17_eq_skeleton]; unfold k0_part17_skel
  simp -zeta -zetaHave -proj only [Prog.lift, Prog.bind_op, Prog.bind_ret, Prog.pure_eq_ret]
  refine step_rcv m K c 6 (by decide) (show RcvSite 6 (fun c => k0_off147 c 6#32) (fun c => k0_off148 c 6#32) (fun c => k0_off149 c 6#32) by unfold RcvSite; decide +kernel) ?_
  refine step_rcv m K c 7 (by decide) (show RcvSite 7 (fun c => k0_off147 c 7#32) (fun c => k0_off148 c 7#32) (fun c => k0_off149 c 7#32) by unfold RcvSite; decide +kernel) ?_
  refine step_rcv m K c 8 (by decide) (show RcvSite 8 (fun c => k0_off147 c 8#32) (fun c => k0_off148 c 8#32) (fun c => k0_off149 c 8#32) by unfold RcvSite; decide +kernel) ?_
  refine step_rcv m K c 9 (by decide) (show RcvSite 9 (fun c => k0_off147 c 9#32) (fun c => k0_off148 c 9#32) (fun c => k0_off149 c 9#32) by unfold RcvSite; decide +kernel) ?_
  exact part_end (h _)

theorem part18 (c : Dev nD) {v2 a1} {Q : _ → sProp 𝕄} (h : ∀ r, iprop(stRcv m K c 13 ∗ R) ⊢ Q r) :
    iprop(stRcv m K c 10 ∗ R) ⊢ WP c (k0_part18 xA h0 wA h1 oM h2 xM h3 wM h4 sM h5 eM h6 cc0_scratch4 cc0_scratch5 cc0_scratch6 cc0_scratch7 c v2 a1) Q := by
  rw [k0_part18_eq_skeleton]; unfold k0_part18_skel
  simp -zeta -zetaHave -proj only [Prog.lift, Prog.bind_op, Prog.bind_ret, Prog.pure_eq_ret]
  refine step_rcv m K c 10 (by decide) (show RcvSite 10 (fun c => k0_off147 c 10#32) (fun c => k0_off148 c 10#32) (fun c => k0_off149 c 10#32) by unfold RcvSite; decide +kernel) ?_
  refine step_rcv m K c 11 (by decide) (show RcvSite 11 (fun c => k0_off147 c 11#32) (fun c => k0_off148 c 11#32) (fun c => k0_off149 c 11#32) by unfold RcvSite; decide +kernel) ?_
  refine step_rcv m K c 12 (by decide) (show RcvSite 12 (fun c => k0_off147 c 12#32) (fun c => k0_off148 c 12#32) (fun c => k0_off149 c 12#32) by unfold RcvSite; decide +kernel) ?_
  exact part_end (h _)

theorem step_bind {β : Type} {c : Dev nD} {P : sProp (MT nD τ sig Unit (Elt F) ℕ UU ℕ)} {x : Prog (TpuEff nD τ sig (Elt F) Λ₀ .tc) β}
    {f : β → Prog (TpuEff nD τ sig (Elt F) Λ₀ .tc) α} (h : P ⊢ WP c x fun r => WP c (f r) Q) : P ⊢ WP c (x >>= f) Q := by
  show P ⊢ wp frame _ _ (x >>= f) Q
  rw [wp_bind]; exact h

/-! ## The body -/

theorem tgt_inj (c : Dev nD) : Set.InjOn (tgt c) (Finset.Ico 0 16 : Finset ℕ) := fun i hi j hj e => by
  rw [← stepOf_tgt c i hi, ← stepOf_tgt c j hj, e]
theorem tgt_image (c : Dev nD) : (Finset.Ico 0 16).image (tgt c) = Finset.univ :=
  Finset.eq_univ_of_forall fun t => Finset.mem_image.2 ⟨stepOf c t, Finset.mem_Ico.2 ⟨Nat.zero_le _, stepOf_lt c t⟩, tgt_stepOf c t⟩
theorem fwd_inj : ∀ c : Dev nD, ∀ d ∈ Finset.Ico 1 16, ∀ e ∈ Finset.Ico 1 16, fwd c d = fwd c e → d = e := by decide +kernel
theorem fwd_image : ∀ c : Dev nD, (Finset.Ico 1 16).image (fwd c) = Finset.univ.erase c := by decide +kernel

/-- Over the steps is over the devices they compute for. -/
theorem bigSep_tgt (c : Dev nD) (Φ : Dev nD → sProp 𝕄) : (bigSep (Finset.Ico 0 16) fun i => Φ (tgt c i)) = bigSep Finset.univ Φ := by
  rw [← tgt_image c, bigSep_image_of_injOn (tgt_inj c)]
/-- Over the distances is over the other devices. -/
theorem bigSep_fwd (c : Dev nD) (Φ : Dev nD → sProp 𝕄) : (bigSep (Finset.Ico 1 16) fun d => Φ (fwd c d)) = bigSep (Finset.univ.erase c) Φ := by
  rw [← fwd_image c, bigSep_image_of_injOn (fun i hi j hj e => fwd_inj c i hi j hj e)]

/-- What device `c` has for the block for `t` before the barrier. -/
def goal0 (c t : Dev nD) : sProp 𝕄 :=
  if t = c then held c (rowsM c)
  else iprop(atPos ER (dmaCell c (sndS t)) 0 ∅ 0 ∗ dutyTok ER (dmaCell c (sndS t)) 0 0 ∗ dutyTok ER (dmaCell t (rcvS c)) 0 0)

/-- The barrier brings the rows the blocks go to. -/
theorem goals (c : Dev nD) :
    iprop((bigSep (Finset.univ.erase c) fun d => held (F := F) d (rowsM c)) ∗ bigSep Finset.univ fun t => iprop(held c (slotM t) ∗ goal0 c t))
      ⊢ bigSep (Finset.Ico 0 16) (T0 c) := by
  unfold T0
  rw [bigSep_tgt c fun t => iprop(held c (slotM t) ∗ goal c t), bigSep_univ_at _ c, bigSep_univ_at (fun t => iprop(held c (slotM t) ∗ goal c t)) c]
  have e : (bigSep (Finset.univ.erase c) fun t => iprop(held (F := F) t (rowsM c) ∗ held c (slotM t) ∗ goal0 c t))
      ⊢ bigSep (Finset.univ.erase c) fun t => iprop(held c (slotM t) ∗ goal c t) := by
    have key : ∀ t, t ≠ c → (iprop(held (F := F) t (rowsM c) ∗ held c (slotM t) ∗ goal0 c t) : sProp 𝕄) ⊢ iprop(held c (slotM t) ∗ goal c t) := fun t ht => ?_
    · exact bigSep_mono fun t ht => key t (Finset.ne_of_mem_erase ht)
    unfold goal goal0 pend
    rw [if_neg ht, if_neg ht]
    iintro ⟨H1, H2, H3, H4, H5⟩
    isplitl [H2]; · iexact H2
    isplitl [H3]; · iexact H3
    isplitl [H4]; · iexact H4
    isplitl [H5]; · iexact H5
    iexact H1
  rw [bigSep_sep'] at e
  have e0 : goal0 (F := F) c c = goal c c := by unfold goal goal0; rw [if_pos rfl, if_pos rfl]
  iintro ⟨H1, H2, H3⟩
  isplitl [H2]; · rw [← e0]; iexact H2
  iapply e
  isplitl [H1]; · iexact H1
  iexact H3

/-- What device `c` has after its sends, by the device its block went to, -/
def sendEnd (c t : Dev nD) : sProp 𝕄 := if t = c then done m c t else iprop(held c (slotM t) ∗ semVal (dmaCell c (sndS t)) 0)
/-- and after its waits for the others' blocks. -/
def recvEnd (c s : Dev nD) : sProp 𝕄 := iprop(rcvPay m c s ∗ semVal (dmaCell c (rcvS s)) 0)

theorem sends_end (c : Dev nD) : bigSep (Finset.Ico 0 16) (T4 m c) = bigSep Finset.univ (sendEnd m c) := bigSep_tgt c (sendEnd m c)
theorem recvs_end (c : Dev nD) : bigSep (Finset.Ico 1 16) (rcv1 m c) = bigSep (Finset.univ.erase c) (recvEnd m c) := bigSep_fwd c (recvEnd m c)

/-- What device `c` starts the body with, -/
def bodyStart (c : Dev nD) (qx q0 q1 : PosShare TreeShare) : sProp 𝕄 :=
  iprop(ow m K c (O₀ c)
    ∗ (bigSep (Finset.univ.erase c) fun d => iprop(dutyTok ER (barCell d) 0 c ∗ held c (rowsM d)))
    ∗ act0 m c qx ∗ wgt0 m c 0 q0 ∗ wgt0 m c 1 q1 ∗ actP c ∗ wgtP c 0 ∗ wgtP c 1 ∗ bar0 c
    ∗ (bigSep Finset.univ fun t => iprop(held c (slotM t) ∗ goal0 c t))
    ∗ bigSep (Finset.univ.erase c) fun s => iprop(atPos ER (dmaCell c (rcvS s)) 0 ∅ 0 ∗ cred (tallyAt (dmaCell c (rcvS s)) () nBlk)))
/-- and what it ends with. -/
def bodyEnd (c : Dev nD) : sProp 𝕄 :=
  iprop(ow m K c 0 ∗ bigSep Finset.univ (sendEnd m c) ∗ bigSep (Finset.univ.erase c) (recvEnd m c)
    ∗ wgt2 m c 0 ∗ wgt2 m c 1 ∗ act2 m c ∗ semVal (barCell c) 0)

theorem body (c : Dev nD) {qx q0 q1 : PosShare TreeShare} {Q : PUnit → sProp 𝕄} (h : iprop(bodyEnd m K c ∗ R) ⊢ Q ⟨⟩) :
    iprop(bodyStart m K c qx q0 q1 ∗ R) ⊢ WP c (cc0_body_v3 xA h0 wA h1 oM h2 xM h3 wM h4 sM h5 eM h6 cc0_scratch4 cc0_scratch5 cc0_scratch6 cc0_scratch7) Q := by
  rw [cc0_body_v3_eq_skeleton]; unfold cc0_body_v3_skel
  refine step_bind ?_
  rw [k0_part19_eq_skeleton]; unfold k0_part19_skel
  refine via (P' := iprop(stSig m K c 1 ∗ act0 m c qx ∗ wgt0 m c 0 q0 ∗ wgt0 m c 1 q1 ∗ actP c ∗ wgtP c 0 ∗ wgtP c 1 ∗ bar0 c
    ∗ (bigSep Finset.univ fun t => iprop(held c (slotM t) ∗ goal0 c t)) ∗ bigSep (Finset.Ico 1 16) (rcv0 c) ∗ R)) ?_ ?_
  · unfold bodyStart stSig sig0 rcv0 O₀
    rw [bigSep_fwd c fun d => iprop(dutyTok ER (barCell d) 0 c ∗ held c (rowsM d)),
      bigSep_fwd c fun s => iprop(atPos ER (dmaCell c (rcvS s)) 0 ∅ 0 ∗ cred (tallyAt (dmaCell c (rcvS s)) () nBlk))]
    iintro ⟨⟨H0, H1, H2, H3, H4, H5, H6, H7, H8, H9, H10⟩, HR⟩
    isplitl [H0 H1]
    · isplitl [H0]; · iexact H0
      iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HR
  refine step_bind (part1 m K c fun _ _ _ => ?_)
  refine step_bind (part2 m K c ?_); rintro ⟨_, _⟩
  refine step_bind (part3 m K c ?_); rintro ⟨_, _, _⟩
  refine via (P' := iprop(ow m K c (oBlk c 0) ∗ wgt0 m c 0 q0 ∗ act1 c ∗ wgt0 m c 1 q1 ∗ actP c ∗ wgtP c 0 ∗ wgtP c 1 ∗ bar0 c
    ∗ (bigSep Finset.univ fun t => iprop(held c (slotM t) ∗ goal0 c t)) ∗ bigSep (Finset.Ico 1 16) (rcv0 c) ∗ R)) ?_ ?_
  · iintro ⟨H1, H2, H3, HR⟩
    isplitl [H1]; · iexact H1
    isplitl [H3]; · iexact H3
    isplitl [H2]; · iexact H2
    iexact HR
  refine step_bind (part4 m K c fun _ => ?_)
  refine via (P' := iprop(ow m K c (oBlk c 0) ∗ wgt0 m c 1 q1 ∗ (actP c ∗ act1 c) ∗ (wgtP c 0 ∗ wgt1 c 0) ∗ bar0 c ∗ wgtP c 1
    ∗ (bigSep Finset.univ fun t => iprop(held c (slotM t) ∗ goal0 c t)) ∗ bigSep (Finset.Ico 1 16) (rcv0 c) ∗ R)) ?_ ?_
  · iintro ⟨H1, H2, H3, H4, H5, H6, H7, H8, HR⟩
    isplitl [H1]; · iexact H1
    isplitl [H4]; · iexact H4
    isplitl [H3 H5]
    · isplitl [H5]; · iexact H5
      iexact H3
    isplitl [H2 H6]
    · isplitl [H6]; · iexact H6
      iexact H2
    isplitl [H8]; · iexact H8
    isplitl [H7]; · iexact H7
    iexact HR
  refine step_bind (part5 m K c fun _ _ _ _ _ => ?_)
  refine via (P' := iprop(stPut m K c 0 ∗ (wgtP c 1 ∗ wgt1 c 1) ∗ act2 m c ∗ wgt2 m c 0 ∗ semVal (barCell c) 0 ∗ bigSep (Finset.Ico 1 16) (rcv0 c) ∗ R)) ?_ ?_
  · unfold bar1 stPut
    rw [Finset.Ico_self, bigSep_empty]
    iintro ⟨H1, ⟨H2, H3⟩, H4, H5, H6, H7, H8, H9, HR⟩
    isplitl [H1 H2 H8]
    · isplitl [H1]; · iexact H1
      isplitl [H2 H8]
      · iapply (goals c)
        isplitl [H2]; · iexact H2
        iexact H8
      iempintro
    isplitl [H6 H7]
    · isplitl [H7]; · iexact H7
      iexact H6
    isplitl [H4]; · iexact H4
    isplitl [H5]; · iexact H5
    isplitl [H3]; · iexact H3
    isplitl [H9]; · iexact H9
    iexact HR
  refine step_bind (part6 m K c ?_); rintro ⟨_, _, _, _⟩
  refine step_bind (part7 m K c fun _ _ _ => ?_)
  refine step_bind (part8 m K c ?_); rintro ⟨_, _, _⟩
  refine step_bind (part9 m K c fun _ V hV => ?_)
  refine step_bind (part10 m K c hV fun _ _ => ?_)
  refine step_bind (part11 m K c ?_); rintro ⟨_, _, _⟩
  refine step_bind (part12 m K c ?_); rintro ⟨_, _⟩
  refine step_bind (part13 m K c ?_); rintro ⟨_, _, _⟩
  refine step_bind (part14 m K c fun _ => ?_)
  refine via (P' := iprop(stSent m K c 14 ∗ (bigSep (Finset.Ico 1 16) (rcv0 c)) ∗ wgt2 m c 1 ∗ act2 m c ∗ wgt2 m c 0 ∗ semVal (barCell c) 0 ∗ R)) ?_ ?_
  · iintro ⟨H1, H2, H3, H4, H5, H6, HR⟩
    isplitl [H1]; · iexact H1
    isplitl [H6]; · iexact H6
    isplitl [H2]; · iexact H2
    isplitl [H3]; · iexact H3
    isplitl [H4]; · iexact H4
    isplitl [H5]; · iexact H5
    iexact HR
  refine step_bind (part15 m K c fun _ => ?_)
  refine step_bind (part16 m K c fun _ => ?_)
  refine step_bind (part17 m K c fun _ => ?_)
  refine step_bind (part18 m K c fun _ => ?_)
  simp -zeta -zetaHave -proj only [Prog.lift, Prog.bind_op, Prog.bind_ret, Prog.pure_eq_ret]
  refine step_rcv m K c 13 (by decide) (show RcvSite 13 (fun c => k0_off147 c 13#32) (fun c => k0_off148 c 13#32) (fun c => k0_off149 c 13#32) by unfold RcvSite; decide +kernel) ?_
  refine step_rcv m K c 14 (by decide) (show RcvSite 14 (fun c => k0_off147 c 14#32) (fun c => k0_off148 c 14#32) (fun c => k0_off149 c 14#32) by unfold RcvSite; decide +kernel) ?_
  refine part_end ?_
  refine step_rcv m K c 15 (by decide) (show RcvSite 15 (fun c => k0_off147 c 15#32) (fun c => k0_off148 c 15#32) (fun c => k0_off149 c 15#32) by unfold RcvSite; decide +kernel) ?_
  refine part_end (via ?_ h)
  unfold stRcv bodyEnd
  rw [sends_end, recvs_end, Finset.Ico_self, bigSep_empty]
  iintro ⟨⟨H1, -, H2⟩, H3, H4, H5, H6, H7, HR⟩
  isplitr [HR]
  · isplitl [H1]; · iexact H1
    isplitl [H3]; · iexact H3
    isplitl [H2]; · iexact H2
    isplitl [H6]; · iexact H6
    isplitl [H4]; · iexact H4
    isplitl [H5]; · iexact H5
    iexact H7
  iexact HR

end Cert.KernelIdealProof

end
-- ==== Proof.KernelIdealSplit.lean ====
/-
# `KernelIdealSplit`: the buffers of one device, whole and in parts

The body holds the result buffer by the rows of each sender, the buffer of blocks to send by slots, and the buffer of
the weights by halves. Each is the buffer held whole; the rows, holding the blocks the devices computed, make up the
result.
-/
module

public import proofs.«01_k».proof.Proof.KernelIdealBody
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A memref held at some contents: its elements at some buffer. -/
theorem held_eq (c : Dev nD) {sp : Space} {s : Shape} {e : EltTy} (M : Memref sig .tc sp s e) :
    (held c M : sProp 𝕄) = iprop(∃ f, M.view.loc (c : Thread nD τ) ↦[M.view.set]{fullShare} f) := by
  have h₁ : (held c M : sProp 𝕄) ⊢ iprop(∃ f, M.view.loc (c : Thread nD τ) ↦[M.view.set]{fullShare} f) := by
    unfold held owns
    iintro ⟨%X, %f, -, H⟩
    iexists f; iexact H
  have h₂ : (iprop(∃ f, M.view.loc (c : Thread nD τ) ↦[M.view.set]{fullShare} f) : sProp 𝕄) ⊢ held c M := by
    unfold held owns
    iintro ⟨%f, H⟩
    iexists M.view.read (Elt F) f, f
    isplitr
    · ipureintro; rfl
    iexact H
  exact BI.equiv_iff.mp ⟨h₁, h₂⟩

/-- A buffer held whole at some contents. -/
def whole (c : Dev nD) (b : Ref sig .tc) : sProp 𝕄 := iprop(∃ f, ((c : Thread nD τ).loc b) ↦{fullShare} f)

/-- A buffer held whole is its parts, each held. -/
theorem parts_eq {T : Type} [Fintype T] [DecidableEq T] (c : Dev nD) (b : Ref sig .tc) {sp : Space} {s : Shape} {e : EltTy}
    (N : T → Memref sig .tc sp s e) (I : T → Finset (Idx ((c : Thread nD τ).loc b)))
    (hN : ∀ t, (held c (N t) : sProp 𝕄) = iprop(∃ f, ((c : Thread nD τ).loc b) ↦[I t]{fullShare} f))
    (hd : ∀ t t', t ≠ t' → Disjoint (I t) (I t')) (hc : Finset.univ.biUnion I = Finset.univ) :
    (whole c b : sProp 𝕄) = bigSep Finset.univ fun t => held c (N t) := by
  rw [bigSep_congr fun t _ => hN t]
  have f₀ : Buf (Elt F) ((c : Thread nD τ).loc b) := fun _ => Classical.arbitrary _
  have key (f : Buf (Elt F) ((c : Thread nD τ).loc b)) (t : T) :
      (((c : Thread nD τ).loc b) ↦[I t]{fullShare} f : sProp 𝕄) ⊢ iprop(∃ f, ((c : Thread nD τ).loc b) ↦[I t]{fullShare} f) := by
    iintro H; iexists f; iexact H
  have h₁ : (whole c b : sProp 𝕄) ⊢ bigSep Finset.univ fun t => iprop(∃ f, ((c : Thread nD τ).loc b) ↦[I t]{fullShare} f) := by
    unfold whole
    iintro ⟨%f, H⟩
    iapply ((Entails.of_eq (Ring.pointsTo_blocks I hd hc f)).trans (bigSep_mono fun t _ => key f t))
    iexact H
  exact BI.equiv_iff.mp ⟨h₁, Ring.pointsTo_blocks_join_exists I hd hc f₀⟩

/-! ## The rectangles -/

abbrev rowR (s : Dev nD) : Rect S1024x64 := Rect.unit (s := S1024x64) ![64 * s.val, 0] S64x64.size (rows_inb s)
abbrev slotR (t : Dev nD) : Rect S16x64x64 := Rect.unit (s := S16x64x64) ![t.val, 0, 0] S1x64x64.size (slot_inb t)
abbrev halfR (b : Fin 2) : Rect S2x1024x512 := Rect.unit (s := S2x1024x512) ![b.val, 0, 0] S1x1024x512.size (half_inb b)

theorem row_disj : ∀ s s' : Dev nD, s ≠ s' → Disjoint (rowR s).set (rowR s').set :=
  Ring.lead_disjoint (s := S1024x64) (NB := 16) 0 64 (fun s => ![64 * s.val, 0]) S64x64.size rows_inb (fun _ => rfl) rfl
theorem row_cov : (Finset.univ : Finset (Dev nD)).biUnion (fun s => (rowR s).set) = Finset.univ :=
  Ring.lead_cover (s := S1024x64) (NB := 16) 0 64 (fun s => ![64 * s.val, 0]) S64x64.size rows_inb (fun _ => rfl) (by decide) rfl (by decide) rfl
theorem slot_disj : ∀ t t' : Dev nD, t ≠ t' → Disjoint (slotR t).set (slotR t').set :=
  Ring.lead_disjoint (s := S16x64x64) (NB := 16) 0 1 (fun t => ![t.val, 0, 0]) S1x64x64.size slot_inb (fun t => (Nat.one_mul _).symm) rfl
theorem slot_cov : (Finset.univ : Finset (Dev nD)).biUnion (fun t => (slotR t).set) = Finset.univ :=
  Ring.lead_cover (s := S16x64x64) (NB := 16) 0 1 (fun t => ![t.val, 0, 0]) S1x64x64.size slot_inb (fun t => (Nat.one_mul _).symm) (by decide) rfl (by decide) rfl
theorem half_disj : ∀ b b' : Fin 2, b ≠ b' → Disjoint (halfR b).set (halfR b').set :=
  Ring.lead_disjoint (s := S2x1024x512) (NB := 2) 0 1 (fun b => ![b.val, 0, 0]) S1x1024x512.size half_inb (fun t => (Nat.one_mul _).symm) rfl
theorem half_cov : (Finset.univ : Finset (Fin 2)).biUnion (fun b => (halfR b).set) = Finset.univ :=
  Ring.lead_cover (s := S2x1024x512) (NB := 2) 0 1 (fun b => ![b.val, 0, 0]) S1x1024x512.size half_inb (fun t => (Nat.one_mul _).symm) (by decide) rfl (by decide) rfl

/-- The elements of a whole buffer's slice are those of its rectangle. -/
theorem slice_set (b : Ref sig .tc) (r : Rect b.ty.shape) : ((Memref.whole b).view.slice r).set = r.set := by
  rw [View.set_slice]
  ext i
  rw [Finset.mem_map]
  exact ⟨fun ⟨j, hj, e⟩ => by rw [← e]; exact hj, fun h => ⟨i, h, rfl⟩⟩

theorem held_slot (c t : Dev nD) :
    (held c (slotM t) : sProp 𝕄) = iprop(∃ f, ((c : Thread nD τ).loc cc0_scratch2) ↦[(slotR t).set]{fullShare} f) :=
  (held_eq c (slotM t)).trans (congrArg (fun S : Finset (Idx ((c : Thread nD τ).loc cc0_scratch2)) => (iprop(∃ f, ((c : Thread nD τ).loc cc0_scratch2) ↦[S]{fullShare} f) : sProp 𝕄))
    ((Memref.set_view_squeeze _ _).trans (slice_set cc0_scratch2 (slotR t))))
theorem held_half (c : Dev nD) (b : Fin 2) :
    (held c (halfM b) : sProp 𝕄) = iprop(∃ f, ((c : Thread nD τ).loc cc0_scratch1) ↦[(halfR b).set]{fullShare} f) :=
  (held_eq c (halfM b)).trans (congrArg (fun S : Finset (Idx ((c : Thread nD τ).loc cc0_scratch1)) => (iprop(∃ f, ((c : Thread nD τ).loc cc0_scratch1) ↦[S]{fullShare} f) : sProp 𝕄))
    ((Memref.set_view_squeeze _ _).trans (slice_set cc0_scratch1 (halfR b))))
theorem held_rows (c s : Dev nD) :
    (held c (rowsM s) : sProp 𝕄) = iprop(∃ f, ((c : Thread nD τ).loc cc0_stg0_0) ↦[(rowR s).set]{fullShare} f) := by
  rw [held_eq, Memref.view_slice, slice_set]

theorem slots_eq (c : Dev nD) : (whole c cc0_scratch2 : sProp 𝕄) = bigSep Finset.univ fun t => held c (slotM t) :=
  parts_eq c cc0_scratch2 slotM (fun t => (slotR t).set) (held_slot c) slot_disj slot_cov
theorem halves_eq (c : Dev nD) : (whole c cc0_scratch1 : sProp 𝕄) = iprop(held c (halfM 0) ∗ held c (halfM 1)) := by
  rw [parts_eq c cc0_scratch1 halfM (fun t => (halfR t).set) (held_half c) half_disj half_cov, bigSep_univ_two]
theorem rows_eq (c : Dev nD) : (whole c cc0_stg0_0 : sProp 𝕄) = bigSep Finset.univ fun s => held c (rowsM s) :=
  parts_eq c cc0_stg0_0 rowsM (fun s => (rowR s).set) (held_rows c) row_disj row_cov
theorem whole_eq (c : Dev nD) : (whole c cc0_scratch0 : sProp 𝕄) = held c xM := by
  rw [held_eq, Memref.view_whole, View.set_whole]; rfl

/-! ## The result -/

set_option backward.proofsInPublic true in
/-- The result on device `c`: the rows of sender `s` are the block device `s` computes for `c`. -/
def outV (c : Dev nD) : Vec F S1024x64 .f32 := fun i =>
  blk m (⟨(i 0).val / 64, by have : (i 0).val < 1024 := (i 0).isLt; show _ < 16; omega⟩ : Dev nD)
    (stepOf (⟨(i 0).val / 64, by have : (i 0).val < 1024 := (i 0).isLt; show _ < 16; omega⟩ : Dev nD) c)
    (fun a => ⟨if a.val = 0 then (i 0).val % 64 else (i 1).val, by
      have h1 : (i 1).val < 64 := (i 1).isLt
      have h0 : (i 0).val % 64 < 64 := Nat.mod_lt _ (by omega)
      fin_cases a <;> simpa⟩)

theorem outV_rows (c s : Dev nD) : (fun j => outV m c ((rowR s).emb j)) = blk m s (stepOf s c) := by
  funext j
  have h0 : (((rowR s).emb j) 0).val = 64 * s.val + (j 0).val := by
    show 64 * s.val + 1 * (j 0).val = _; omega
  have h1 : (((rowR s).emb j) 1).val = (j 1).val := by
    show 0 + 1 * (j 1).val = _; omega
  have hj : (j 0).val < 64 := (j 0).isLt
  have hs : (⟨(((rowR s).emb j) 0).val / 64, by rw [h0]; have : s.val < 16 := s.isLt; show _ < 16; omega⟩ : Dev nD) = s :=
    Fin.ext (by show _ / 64 = _; rw [h0]; omega)
  unfold outV
  rw [hs]
  congr 1
  funext a
  refine Fin.ext ?_
  show (if a.val = 0 then _ else _) = (j a).val
  fin_cases a
  · rw [if_pos rfl, h0]; show _ = (j 0).val; omega
  · rw [if_neg (by decide), h1]; rfl

/-- The rows of every sender, holding the blocks, are the result buffer holding the result. -/
theorem rows_join (c : Dev nD) :
    (bigSep Finset.univ fun s => (rcvPay m c s : sProp 𝕄)) ⊢ owns (c : Thread nD τ) oM fullShare (outV m c) := by
  have e : (bigSep Finset.univ fun s => (rcvPay m c s : sProp 𝕄))
      = bigSep Finset.univ fun s => owns (c : Thread nD τ) (oM.slice (rowR s) (fun _ => rfl)) fullShare (fun j => outV m c ((rowR s).emb j)) :=
    bigSep_congr fun s _ => by unfold rcvPay; rw [outV_rows]
  rw [e]
  exact owns_of_rects (c : Thread nD τ) oM fullShare rowR (fun _ _ => rfl) row_disj row_cov (outV m c)

end Cert.KernelIdealProof

end
-- ==== Proof.KernelIdealGhost.lean ====
/-
# `KernelIdealGhost`: what the launch deals to the devices

The cells of the protocol, the rights to make the signals and copies, dealt to the devices that make them, and the
credits the devices start with.
-/
module

public import proofs.«01_k».proof.Proof.KernelIdealBody
public import proofs.«01_k».proof.Proof.Gen.KernelIdeal.Launch
public import Idealize.ShloMosaic.Lib.Pipeline.Launch
public import Idealize.ShloMosaic.Lib.Pipeline.Kit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a device, kind by kind -/

set_option backward.proofsInPublic true in
/-- The kernel's own semaphores, in order. -/
abbrev own (k : Fin 35) : DmaSem sig := ⟨k.val + 1, by have := k.isLt; show _ < 36; omega⟩
abbrev osem : Fin 35 → SemLoc sig := fun k => .dma (own k)

theorem ownSemFacts : Pipeline.OwnSemFacts cfg0.spec osem := by decide +kernel

section Kinds
variable (Φ : Fin 36 → sProp (MT nD τ sig Unit (Elt F) ℕ UU ℕ))

theorem sems_own : bigSep Finset.univ Φ = iprop(Φ 0 ∗ bigSep Finset.univ fun k => Φ (own k)) := by
  have e : ∀ k : Fin 35, (finSumFinEquiv : Fin 1 ⊕ Fin 35 ≃ Fin 36) (.inr k) = own k := fun k => Fin.ext (Nat.add_comm _ _)
  rw [bigSep_univ_equiv (finSumFinEquiv : Fin 1 ⊕ Fin 35 ≃ Fin 36), bigSep_univ_sum, bigSep_univ_of_subsingleton (0 : Fin 1),
    bigSep_congr fun k _ => by rw [e k]]
  rfl

theorem own_kinds : (bigSep Finset.univ fun k => Φ (own k))
    = iprop((Φ (wgtS 0) ∗ Φ (wgtS 1) ∗ Φ actS) ∗ (bigSep Finset.univ fun t : Dev nD => Φ (sndS t)) ∗ bigSep Finset.univ fun s : Dev nD => Φ (rcvS s)) := by
  have es : ∀ t : Fin 16, own ((finSumFinEquiv : Fin 3 ⊕ Fin 32 ≃ Fin 35) (.inr ((finSumFinEquiv : Fin 16 ⊕ Fin 16 ≃ Fin 32) (.inl t)))) = sndS t :=
    fun t => Fin.ext (show 3 + t.val + 1 = t.val + 4 by omega)
  have er : ∀ t : Fin 16, own ((finSumFinEquiv : Fin 3 ⊕ Fin 32 ≃ Fin 35) (.inr ((finSumFinEquiv : Fin 16 ⊕ Fin 16 ≃ Fin 32) (.inr t)))) = rcvS t :=
    fun t => Fin.ext (show 3 + (16 + t.val) + 1 = t.val + 20 by omega)
  have hs : (bigSep Finset.univ fun t : Fin 16 => Φ (own ((finSumFinEquiv : Fin 3 ⊕ Fin 32 ≃ Fin 35) (.inr ((finSumFinEquiv : Fin 16 ⊕ Fin 16 ≃ Fin 32) (.inl t))))))
      = bigSep Finset.univ fun t : Fin 16 => Φ (sndS t) := bigSep_congr fun t _ => by rw [es t]
  have hr : (bigSep Finset.univ fun t : Fin 16 => Φ (own ((finSumFinEquiv : Fin 3 ⊕ Fin 32 ≃ Fin 35) (.inr ((finSumFinEquiv : Fin 16 ⊕ Fin 16 ≃ Fin 32) (.inr t))))))
      = bigSep Finset.univ fun t : Fin 16 => Φ (rcvS t) := bigSep_congr fun t _ => by rw [er t]
  rw [bigSep_univ_equiv (finSumFinEquiv : Fin 3 ⊕ Fin 32 ≃ Fin 35), bigSep_univ_sum,
    bigSep_univ_equiv (finSumFinEquiv : Fin 16 ⊕ Fin 16 ≃ Fin 32), bigSep_univ_sum, hs, hr,
    bigSep_univ_eq_bigSepL [(0 : Fin 3), 1, 2] (by decide) (by decide)]
  rfl

end Kinds

theorem own_pos (k : Fin 35) : (own k).val ≠ 0 := Nat.succ_ne_zero _

/-- Over the cells of a device: its barrier's, then those of the kernel's own semaphores. -/
theorem cells_own (c : Dev nD) (P : GSem nD τ sig → sProp 𝕄) :
    (bigSep Finset.univ fun k : Fin 36 => P (kcell (c, k))) = iprop(P (barCell c) ∗ bigSep Finset.univ fun k => P (dmaCell c (own k))) := by
  rw [sems_own (fun k => P (kcell (c, k))), bigSep_congr fun k _ => by rw [kcell_dma c (own k) (own_pos k)]]
  rfl
theorem cells_kinds (c : Dev nD) (P : GSem nD τ sig → sProp 𝕄) :
    (bigSep Finset.univ fun k => P (dmaCell c (own k)))
      = iprop((P (dmaCell c (wgtS 0)) ∗ P (dmaCell c (wgtS 1)) ∗ P (dmaCell c actS))
        ∗ (bigSep Finset.univ fun t : Dev nD => P (dmaCell c (sndS t))) ∗ bigSep Finset.univ fun s : Dev nD => P (dmaCell c (rcvS s))) :=
  own_kinds fun k => P (dmaCell c k)

/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide +kernel)]; rfl

/-- All the semaphores of a device at zero. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 36 => semVal (kcell (c, k)) 0 : sProp 𝕄) := by
  rw [unscopedSems0_eq, cells_own c fun g => semVal g 0]
  exact sep_comm.1

/-! ## Cells and rights -/

theorem kcell_injective : Function.Injective (kcell : Dev nD × Fin 36 → GSem nD τ sig) := by
  rintro ⟨c, k⟩ ⟨c', k'⟩ h
  have h1 : c = c' := congrArg (fun g : GSem nD τ sig => g.1.1) h
  have h2 : csem k = csem k' := congrArg Prod.snd h
  have key : ∀ k k' : Fin 36, csem k = csem k' → k = k' := by decide +kernel
  rw [h1, key k k' h2]

def theCells : Finset (GSem nD τ sig) := Finset.univ.map ⟨kcell, kcell_injective⟩

/-- The rights minted with the cells of a device: on its barrier one per device, on each other semaphore one. -/
def mint (x : Dev nD × (Dev nD ⊕ Fin 35)) : GSem nD τ sig × ℕ × Dev nD := match x.2 with
  | .inl d => (barCell x.1, 0, d)
  | .inr k => (dmaCell x.1 (own k), 0, 0)

theorem mint_injective : Function.Injective mint := by
  rintro ⟨c, j⟩ ⟨c', j'⟩ h
  have h1 : c = c' := by
    have := congrArg (fun x : GSem nD τ sig × ℕ × Dev nD => x.1.1.1) h
    rcases j with d | k <;> rcases j' with d' | k' <;> exact this
  subst h1
  rcases j with d | k <;> rcases j' with d' | k'
  · have : d = d' := congrArg (fun x : GSem nD τ sig × ℕ × Dev nD => x.2.2) h
    rw [this]
  · exact absurd (congrArg (fun x : GSem nD τ sig × ℕ × Dev nD => x.1.2) h) (fun h' => by cases h')
  · exact absurd (congrArg (fun x : GSem nD τ sig × ℕ × Dev nD => x.1.2) h) (fun h' => by cases h')
  · have e : (SemLoc.dma (own k) : SemLoc sig) = .dma (own k') := congrArg (fun x : GSem nD τ sig × ℕ × Dev nD => x.1.2) h
    have e' : own k = own k' := by injection e
    have : k = k' := Fin.ext (Nat.succ.inj (congrArg Fin.val e'))
    rw [this]

def theRights : Finset (GSem nD τ sig × ℕ × Dev nD) := Finset.univ.map ⟨mint, mint_injective⟩

def u₀ : UU :=
  (initOf (Pipeline.cells cfgs cellOf_inj) (Pipeline.launchToks cfgs cellOf_inj), initOf theCells theRights)

/-- The rights on the cells of device `c`. -/
def minted (c : Dev nD) : sProp 𝕄 :=
  iprop((bigSep Finset.univ fun d : Dev nD => dutyTok ER (barCell c) 0 d) ∗ bigSep Finset.univ fun k => dutyTok ER (dmaCell c (own k)) 0 0)
/-- The places of device `c` at its cells. -/
def places (c : Dev nD) : sProp 𝕄 := bigSep Finset.univ fun k : Fin 36 => atPos ER (kcell (c, k)) 0 ∅ 0
def marks (c : Dev nD) : sProp 𝕄 := bigSep Finset.univ fun k : Fin 36 => reached ER (kcell (c, k)) 0

/-- What the launch makes for device `c`. -/
def G (c : Dev nD) : sProp 𝕄 :=
  iprop((bigSep Finset.univ fun k : Fin 36 => roundState ER (exch m) (kcell (c, k)) 0) ∗ places c ∗ marks c ∗ minted c)

theorem fund : BI.own (ER (initOf theCells theRights)) ⊢ (|==> bigSep Finset.univ (G m) : sProp 𝕄) := by
  have hX (Φ : GSem nD τ sig → sProp 𝕄) : bigSep theCells Φ = bigSep Finset.univ fun c : Dev nD => bigSep Finset.univ fun k : Fin 36 => Φ (kcell (c, k)) := by
    unfold theCells; rw [bigSep_map, bigSep_univ_prod]; rfl
  have hT : bigSep theRights (fun x => (dutyTok ER x.1 x.2.1 x.2.2 : sProp 𝕄)) = bigSep Finset.univ fun c : Dev nD => minted c := by
    unfold theRights; rw [bigSep_map, bigSep_univ_prod]
    exact bigSep_congr fun c _ => by unfold minted; rw [bigSep_univ_sum]; rfl
  iintro HX
  imod (Rounds.fund ER (exch m) theCells theRights) $$ HX with ⟨Hst, Hr, Hat, Htok⟩
  imodintro
  ihave Hst' := (Entails.of_eq (hX fun g => roundState ER (exch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places marks; simp only [bigSep_sep']
  isplitl [Hst']; · iexact Hst'
  isplitl [Hat']; · iexact Hat'
  isplitl [Hr']; · iexact Hr'
  iexact Htok'

/-- The rights device `c` uses: to signal every barrier, to copy its own operands, to send to every device. -/
def rights (c : Dev nD) : sProp 𝕄 :=
  iprop((bigSep Finset.univ fun d : Dev nD => dutyTok ER (barCell d) 0 c)
    ∗ (dutyTok ER (dmaCell c (wgtS 0)) 0 0 ∗ dutyTok ER (dmaCell c (wgtS 1)) 0 0 ∗ dutyTok ER (dmaCell c actS) 0 0)
    ∗ (bigSep Finset.univ fun t : Dev nD => dutyTok ER (dmaCell c (sndS t)) 0 0)
    ∗ bigSep Finset.univ fun t : Dev nD => dutyTok ER (dmaCell t (rcvS c)) 0 0)

/-- The rights go to the devices that use them. -/
theorem deal : (bigSep Finset.univ fun c : Dev nD => (minted c : sProp 𝕄)) ⊢ bigSep Finset.univ fun c : Dev nD => rights c := by
  unfold minted rights
  rw [bigSep_congr fun c _ => by rw [cells_kinds c fun g => (dutyTok ER g 0 0 : sProp 𝕄)]]
  simp only [bigSep_sep']
  rw [bigSep_univ_comm fun c d : Dev nD => (dutyTok ER (barCell c) 0 d : sProp 𝕄),
    bigSep_univ_comm fun c s : Dev nD => (dutyTok ER (dmaCell c (rcvS s)) 0 0 : sProp 𝕄)]

/-- The protocol kept at every cell, under the names `K`. -/
def records (K : Dev nD × Fin 36 → ℕ) : sProp 𝕄 :=
  iprop((bigSep Finset.univ fun ck : Dev nD × Fin 36 => cellInv ER (exch m) (K ck) (kcell ck))
    ∗ bigSep Finset.univ fun ck : Dev nD × Fin 36 => reached ER (kcell ck) 0)

instance records_persistent (K : Dev nD × Fin 36 → ℕ) : BI.Persistent (records m K) := by unfold records; infer_instance

theorem env_intro (K : Dev nD × Fin 36 → ℕ) : iprop(records m K ∗ levAts L lv) ⊢ env m K := by
  unfold records env; exact .rfl

/-- What device `c` starts the kernel with. -/
def G' (c : Dev nD) : sProp 𝕄 := iprop(∃ K, records m K ∗ places c ∗ rights c)

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 36 => iprop(∃ κ : ℕ, cellInv ER (exch m) κ (kcell (c, k)))) ∗ places c ∗ marks c ∗ minted c) := by
  unfold G
  iintro ⟨Hos, Hus, Hst, Hrest⟩
  ihave Hv := (sems_eq (F := F) c) $$ [Hos Hus]
  · isplitl [Hos] <;> iassumption
  imod (show iprop((bigSep Finset.univ fun k : Fin 36 => semVal (kcell (c, k)) 0) ∗ bigSep Finset.univ fun k : Fin 36 => roundState ER (exch m) (kcell (c, k)) 0)
      ⊢ (|={Set.univ}=> bigSep Finset.univ fun k : Fin 36 => iprop(∃ κ : ℕ, cellInv ER (exch m) κ (kcell (c, k))) : sProp 𝕄) from by
        rw [← bigSep_sep']
        exact (bigSep_mono fun k _ => (Rounds.body_intro ER (exch m) (kcell (c, k))).trans inv_alloc).trans (bigSep_fupd _ _)) $$ [Hv Hst] with Hinv
  · isplitl [Hv] <;> iassumption
  imodintro
  isplitl [Hinv]; · iexact Hinv
  iexact Hrest

theorem give (K : Dev nD × Fin 36 → ℕ) (c : Dev nD) : iprop(records m K ∗ (places c ∗ rights c)) ⊢ G' m c := by
  unfold G'
  iintro ⟨#HR, H⟩
  iexists K
  isplitr; · iexact HR
  iexact H

theorem regroup :
    (bigSep Finset.univ fun c : Dev nD => iprop((bigSep Finset.univ fun k : Fin 36 => iprop(∃ κ : ℕ, cellInv ER (exch m) κ (kcell (c, k)))) ∗ places c ∗ marks c ∗ minted c) : sProp 𝕄)
      ⊢ bigSep Finset.univ (G' m) := by
  simp only [bigSep_sep']
  rw [← bigSep_univ_prod (fun ck : Dev nD × Fin 36 => iprop(∃ κ : ℕ, cellInv ER (exch m) κ (kcell ck))),
    show (bigSep Finset.univ fun c : Dev nD => (marks c : sProp 𝕄)) = bigSep Finset.univ fun ck : Dev nD × Fin 36 => reached ER (kcell ck) 0 from
      (bigSep_univ_prod (fun ck : Dev nD × Fin 36 => (reached ER (kcell ck) 0 : sProp 𝕄))).symm]
  iintro ⟨HI, Hat, #HR, Htok⟩
  ihave HK := (BI.bigSep_exists_pi Finset.univ (fun (ck : Dev nD × Fin 36) (κ : ℕ) => (cellInv ER (exch m) κ (kcell ck) : sProp 𝕄))) $$ HI
  icases HK with ⟨%K, #HI⟩
  ihave Htk := (deal (F := F)) $$ Htok
  iapply (BI.bigSep_with_persistent (R := records m K) fun c _ => give m K c)
  isplitr
  · unfold records; isplitl; · iexact HI
    iexact HR
  · iapply (Entails.of_eq (bigSep_sep' Finset.univ (fun c : Dev nD => (places c : sProp 𝕄)) rights).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credits -/

theorem cell_eq_iff {a b : Dev nD} {x y : SemLoc sig} : (((a : Thread nD τ), x) : GSem nD τ sig) = ((b : Thread nD τ), y) ↔ a = b ∧ x = y :=
  ⟨fun h => ⟨congrArg (fun g : GSem nD τ sig => g.1.1) h, congrArg Prod.snd h⟩, fun ⟨h, h'⟩ => by rw [h, h']⟩

theorem sum_at (S : Finset ℕ) (f : ℕ → CellTallies nD τ sig Unit) (g : GSem nD τ sig) : (∑ j ∈ S, f j) g () = ∑ j ∈ S, f j g () := by
  rw [Finset.sum_apply, Finsupp.finset_sum_apply]

theorem O₀_at (d : Dev nD) (g : GSem nD τ sig) : O₀ d g ()
    = ∑ j ∈ Finset.Ico 0 16, (if tgt d j = d then 0 else if dmaCell (tgt d j) (rcvS d) = g then nBlk else 0)
      + ∑ j ∈ Finset.Ico 1 16, (if barCell (fwd d j) = g then 1 else 0) := by
  unfold O₀ oBlk oBar
  rw [Pi.add_apply, Finsupp.add_apply, sum_at, sum_at]
  have at_ : ∀ (g' : GSem nD τ sig) (n : ℕ), (tallyAt g' () n : CellTallies nD τ sig Unit) g () = if g' = g then n else 0 := fun g' n => by
    rw [tallyAt_apply]
    exact if_congr ⟨fun h => h.1.symm, fun h => ⟨h.symm, rfl⟩⟩ rfl rfl
  have h1 : ∀ j ∈ Finset.Ico 0 16, (if tgt d j = d then (0 : CellTallies nD τ sig Unit) else tallyAt (dmaCell (tgt d j) (rcvS d)) () nBlk) g ()
      = if tgt d j = d then 0 else if dmaCell (tgt d j) (rcvS d) = g then nBlk else 0 := fun j _ => by
    by_cases h : tgt d j = d
    · rw [if_pos h, if_pos h]; rfl
    · rw [if_neg h, if_neg h]; exact at_ _ _
  rw [Finset.sum_congr rfl h1, Finset.sum_congr rfl fun j _ => at_ (barCell (fwd d j)) 1]

theorem owed_bar (c : Dev nD) : ∑ d : Dev nD, O₀ d (barCell c) () = 15 := by
  have e : ∀ d, O₀ d (barCell c) () = ∑ j ∈ Finset.Ico 1 16, (if fwd d j = c then 1 else 0) := fun d => by
    rw [O₀_at, Finset.sum_eq_zero, Nat.zero_add]
    · exact Finset.sum_congr rfl fun j _ => by simp only [cell_eq_iff, and_true]
    · intro j _
      split
      · rfl
      · rw [if_neg fun h => by cases (cell_eq_iff.mp h).2]
  have key : ∀ c : Dev nD, ∑ d : Dev nD, ∑ j ∈ Finset.Ico 1 16, (if fwd d j = c then 1 else 0) = 15 := by decide +kernel
  rw [Finset.sum_congr rfl fun d _ => e d, key c]

theorem owed_rcv (c s : Dev nD) (h : s ≠ c) : ∑ d : Dev nD, O₀ d (dmaCell c (rcvS s)) () = nBlk := by
  have e : ∀ d, O₀ d (dmaCell c (rcvS s)) () = (∑ j ∈ Finset.Ico 0 16, (if tgt d j = d then 0 else if tgt d j = c ∧ d = s then 1 else 0)) * nBlk := fun d => by
    rw [O₀_at, Finset.sum_eq_zero (s := Finset.Ico 1 16), Nat.add_zero, Finset.sum_mul]
    · refine Finset.sum_congr rfl fun j _ => ?_
      split
      · rw [Nat.zero_mul]
      · have hr : dmaCell (tgt d j) (rcvS d) = dmaCell c (rcvS s) ↔ tgt d j = c ∧ d = s := by
          rw [cell_eq_iff]
          refine and_congr_right fun _ => ⟨fun h => ?_, fun h => by rw [h]⟩
          have e' : rcvS d = rcvS s := by injection h
          exact Fin.ext (Nat.add_right_cancel (congrArg Fin.val e'))
        simp only [hr]
        split
        · rw [Nat.one_mul]
        · rw [Nat.zero_mul]
    · intro j _
      rw [if_neg fun h => by cases (cell_eq_iff.mp h).2]
  rw [Finset.sum_congr rfl fun d _ => e d, ← Finset.sum_mul]
  have key : ∀ c s : Dev nD, s ≠ c → ∑ d : Dev nD, ∑ j ∈ Finset.Ico 0 16, (if tgt d j = d then 0 else if tgt d j = c ∧ d = s then 1 else 0) = 1 := by decide +kernel
  rw [key c s h, Nat.one_mul]

theorem credit_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credits of device `c`: its barrier's signals, the blocks it receives. -/
def creds (c : Dev nD) : sProp 𝕄 :=
  iprop(cred (tallyAt (barCell c) () 15) ∗ bigSep (Finset.univ.erase c) fun s => cred (tallyAt (dmaCell c (rcvS s)) () nBlk))

theorem creds_intro (c : Dev nD) : (Pipeline.launchCred O₀ c : sProp 𝕄) ⊢ creds c := by
  unfold Pipeline.launchCred creds
  rw [bigSep_univ_at _ (SemLoc.reg barS), credit_at (barCell c) 15 (owed_bar c)]
  refine sep_mono_right ?_
  have inj : Set.InjOn (fun s : Dev nD => (SemLoc.dma (rcvS s) : SemLoc sig)) (Finset.univ.erase c : Finset (Dev nD)) := fun s _ s' _ h => by
    have e : rcvS s = rcvS s' := by injection h
    exact Fin.ext (Nat.add_right_cancel (congrArg Fin.val e))
  have sub : (Finset.univ.erase c : Finset (Dev nD)).image (fun s : Dev nD => (SemLoc.dma (rcvS s) : SemLoc sig)) ⊆ Finset.univ.erase (SemLoc.reg barS) := fun x hx => by
    obtain ⟨s, _, rfl⟩ := Finset.mem_image.mp hx
    exact Finset.mem_erase.mpr ⟨(fun h => by cases h), Finset.mem_univ _⟩
  refine (bigSep_subset sub).trans ?_
  rw [bigSep_image_of_injOn inj]
  exact Entails.of_eq (bigSep_congr fun s hs => by rw [credit_at (dmaCell c (rcvS s)) nBlk (owed_rcv c s (Finset.ne_of_mem_erase hs))])

end Cert.KernelIdealProof

end
-- ==== Proof.KernelIdealRun.lean ====
/-
# `KernelIdealRun`: the kernel run on the sixteen devices

Each device starts with its share of what the launch deals; what its body leaves is every semaphore at zero, the
scratch buffers, and the result of the exchange in the result buffer.
-/
module

public import proofs.«01_k».proof.Proof.KernelIdealSplit
public import proofs.«01_k».proof.Proof.KernelIdealGhost
public import Idealize.ShloMosaic.Lib.Pipeline.CollectiveSegs
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 36 → ℕ)

attribute [local irreducible] wp

/-! ## Into the body -/

/-- An argument of device `c` as launched, at a share. -/
abbrev arg (c : Dev nD) (b : Ref sig .tc) (q : PosShare TreeShare) : sProp 𝕄 := ((c : Thread nD τ).loc b) ↦{q} m ((c : Thread nD τ).loc b)

theorem arg_halves (c : Dev nD) (b : Ref sig .tc) (q : PosShare TreeShare) : arg m c b q ⊢ iprop(arg m c b q.left ∗ arg m c b q.right) :=
  (pointsTo_share (PosShare.mem_left_op_right q)).1

/-- The shares of the arguments the copies read. -/
def reads (c : Dev nD) : sProp 𝕄 := iprop(arg m c main_arg0 fullShare.left ∗ arg m c main_arg1 fullShare.left)
/-- The shares kept to see the arguments unchanged. -/
def keeps (c : Dev nD) : sProp 𝕄 := iprop(arg m c main_arg0 fullShare.right ∗ arg m c main_arg1 fullShare.right)

theorem cols_of (c : Dev nD) (b : Fin 2) (q : PosShare TreeShare) :
    arg m c main_arg1 q ⊢ ((colsA c b).view.loc (c : Thread nD τ) ↦[(colsA c b).view.set]{q} m ((c : Thread nD τ).loc main_arg1) : sProp 𝕄) :=
  (pointsTo_split_subset (Finset.subset_univ _)).1.trans sep_elim_left

theorem act_of (c : Dev nD) (q : PosShare TreeShare) :
    arg m c main_arg0 q ⊢ ((xA.view.loc (c : Thread nD τ)) ↦[xA.view.set]{q} m ((c : Thread nD τ).loc main_arg0) : sProp 𝕄) :=
  (pointsTo_split_subset (Finset.subset_univ _)).1.trans sep_elim_left

theorem at_other (c : Dev nD) (Φ : Dev nD → sProp 𝕄) : bigSep Finset.univ Φ ⊢ bigSep (Finset.univ.erase c) Φ := bigSep_subset (Finset.subset_univ _)

/-- The places of the two semaphores device `c` does not use: it sends itself nothing. -/
def idle (c : Dev nD) : sProp 𝕄 := iprop(atPos ER (dmaCell c (sndS c)) 0 ∅ 0 ∗ atPos ER (dmaCell c (rcvS c)) 0 ∅ 0)

/-- The rows of the result and the rights to send, by the device a block is for. -/
theorem goals_of (c : Dev nD) :
    iprop(held c (rowsM c) ∗ (bigSep (Finset.univ.erase c) fun t : Dev nD => atPos ER (dmaCell c (sndS t)) 0 ∅ 0)
        ∗ (bigSep (Finset.univ.erase c) fun t : Dev nD => dutyTok ER (dmaCell c (sndS t)) 0 0)
        ∗ (bigSep (Finset.univ.erase c) fun t : Dev nD => dutyTok ER (dmaCell t (rcvS c)) 0 0))
      ⊢ (bigSep Finset.univ fun t => goal0 c t : sProp 𝕄) := by
  have e : (bigSep (Finset.univ.erase c) fun t => goal0 c t : sProp 𝕄)
      = bigSep (Finset.univ.erase c) fun t => iprop(atPos ER (dmaCell c (sndS t)) 0 ∅ 0 ∗ dutyTok ER (dmaCell c (sndS t)) 0 0 ∗ dutyTok ER (dmaCell t (rcvS c)) 0 0) :=
    bigSep_congr fun t ht => by unfold goal0; rw [if_neg (Finset.ne_of_mem_erase ht)]
  rw [bigSep_univ_at (fun t => goal0 c t) c, e, bigSep_sep', bigSep_sep', show (goal0 c c : sProp 𝕄) = held c (rowsM c) from if_pos rfl]

/-- Device `c` enters the body with what the launch dealt it. -/
theorem enter (c : Dev nD) :
    iprop(ow m K c (O₀ c) ∗ (places c ∗ rights c) ∗ creds c ∗ reads m c ∗ whole c cc0_stg0_0 ∗ whole c cc0_scratch0 ∗ whole c cc0_scratch1 ∗ whole c cc0_scratch2)
      ⊢ iprop(bodyStart m K c fullShare.left fullShare.left.left fullShare.left.right ∗ idle c) := by
  unfold places rights creds reads bodyStart act0 wgt0 actP wgtP bar0 idle
  rw [cells_own c (fun g => atPos ER g 0 ∅ 0), cells_kinds c (fun g => atPos ER g 0 ∅ 0), rows_eq, whole_eq, halves_eq, slots_eq]
  simp only [bigSep_sep']
  rw [bigSep_univ_at (fun t : Dev nD => (atPos ER (dmaCell c (sndS t)) 0 ∅ 0 : sProp 𝕄)) c,
    bigSep_univ_at (fun t : Dev nD => (atPos ER (dmaCell c (rcvS t)) 0 ∅ 0 : sProp 𝕄)) c,
    bigSep_univ_at (fun s : Dev nD => (held c (rowsM s) : sProp 𝕄)) c]
  iintro ⟨How, ⟨⟨HpB, ⟨Hp0, Hp1, HpA⟩, ⟨Hps, HpS⟩, Hpr, HpR⟩, HtB, ⟨Ht0, Ht1, HtA⟩, HtS, HtR⟩, ⟨HcB, HcR⟩, ⟨Hx, Hw⟩, ⟨Hrow, Hrows⟩, HX, ⟨HW0, HW1⟩, Hslots⟩
  ihave Hww := (arg_halves m c main_arg1 fullShare.left) $$ Hw
  icases Hww with ⟨Hw0, Hw1⟩
  ihave HtB' := (at_other (F := F) c fun d => dutyTok ER (barCell d) 0 c) $$ HtB
  ihave HtS' := (at_other (F := F) c fun t => dutyTok ER (dmaCell c (sndS t)) 0 0) $$ HtS
  ihave HtR' := (at_other (F := F) c fun t => dutyTok ER (dmaCell t (rcvS c)) 0 0) $$ HtR
  ihave Hg := (goals_of (F := F) c) $$ [Hrow HpS HtS' HtR']
  · isplitl [Hrow]; · iexact Hrow
    isplitl [HpS]; · iexact HpS
    isplitl [HtS']; · iexact HtS'
    iexact HtR'
  isplitr [Hps Hpr]
  · isplitl [How]; · iexact How
    isplitl [HtB' Hrows]
    · isplitl [HtB']; · iexact HtB'
      iexact Hrows
    isplitl [Hx HX HtA]
    · isplitl [Hx]; · iapply (act_of m c fullShare.left); iexact Hx
      isplitl [HX]; · iexact HX
      iexact HtA
    isplitl [Hw0 HW0 Ht0]
    · isplitl [Hw0]; · iapply (cols_of m c 0 fullShare.left.left); iexact Hw0
      isplitl [HW0]; · iexact HW0
      iexact Ht0
    isplitl [Hw1 HW1 Ht1]
    · isplitl [Hw1]; · iapply (cols_of m c 1 fullShare.left.right); iexact Hw1
      isplitl [HW1]; · iexact HW1
      iexact Ht1
    isplitl [HpA]; · iexact HpA
    isplitl [Hp0]; · iexact Hp0
    isplitl [Hp1]; · iexact Hp1
    isplitl [HpB HcB]
    · isplitl [HpB]; · iexact HpB
      iexact HcB
    isplitl [Hslots Hg]
    · isplitl [Hslots]; · iexact Hslots
      iexact Hg
    isplitl [HpR]; · iexact HpR
    iexact HcR
  · isplitl [Hps]; · iexact Hps
    iexact Hpr

/-! ## Out of the body -/

/-- The semaphores of a device, all at zero. -/
def zeros (c : Dev nD) : sProp 𝕄 := bigSep Finset.univ fun k : Fin 36 => semVal (kcell (c, k)) 0
/-- The scratch buffers the body uses. -/
def scratch (c : Dev nD) : sProp 𝕄 := iprop(whole c cc0_scratch0 ∗ whole c cc0_scratch1 ∗ whole c cc0_scratch2)

/-- A semaphore on which nothing happens is at zero. -/
theorem idle_close (c : Dev nD) (q : DmaSem sig) (hq : q.val ≠ 0) (hd : dutyOf c q = ∅) :
    iprop(env m K ∗ atPos ER (dmaCell c q) 0 ∅ 0) ⊢ |={Set.univ}=> (semVal (dmaCell c q) 0 : sProp 𝕄) := by
  iintro ⟨#He, Hat⟩
  ihave H := (env_dma m K c q hq) $$ He
  icases H with ⟨#HI, -⟩
  iapply (Rounds.cell_close ER (exch m) (Set.mem_univ (K (c, q))) (fun h => h) (R := 0) (fun r _ => by
    rcases r with _ | r
    · rw [duties_dma]; exact hd
    · exact duties_later m (dmaCell c q) (r + 1) (Nat.le_add_left _ _)))
  isplitr; · iexact HI
  iexact Hat

theorem held_of (c : Dev nD) {sp : Space} {s : Shape} {e : EltTy} (M : Memref sig .tc sp s e) (X : Vec F s e) :
    (owns (c : Thread nD τ) M fullShare X : sProp 𝕄) ⊢ held c M := by
  unfold held
  iintro H; iexists X; iexact H

/-- What the sends leave, by kind. -/
theorem sends_of (c : Dev nD) : (bigSep Finset.univ (sendEnd m c) : sProp 𝕄)
    = iprop((held c (slotM c) ∗ rcvPay m c c) ∗ (bigSep (Finset.univ.erase c) fun t => held c (slotM t)) ∗ bigSep (Finset.univ.erase c) fun t => semVal (dmaCell c (sndS t)) 0) := by
  have e : bigSep (Finset.univ.erase c) (sendEnd m c) = bigSep (Finset.univ.erase c) fun t => iprop(held c (slotM t) ∗ semVal (dmaCell c (sndS t)) 0) :=
    bigSep_congr fun t ht => by unfold sendEnd; rw [if_neg (Finset.ne_of_mem_erase ht)]
  rw [bigSep_univ_at (sendEnd m c) c, e, bigSep_sep', show sendEnd m c c = done m c c from if_pos rfl]
  rfl

/-- Device `c` leaves the body with the result in place and its semaphores at zero. -/
theorem leave (c : Dev nD) :
    iprop(bodyEnd m K c ∗ idle c)
      ⊢ |={Set.univ}=> iprop((∃ W, owes (c : Thread nD τ) 0 W) ∗ owns (c : Thread nD τ) oM fullShare (outV m c) ∗ zeros c ∗ scratch c) := by
  unfold bodyEnd ow idle wgt2 act2 zeros scratch
  rw [sends_of m c, cells_own c (fun g => semVal g 0), cells_kinds c (fun g => semVal g 0), whole_eq, halves_eq, slots_eq]
  unfold recvEnd
  simp only [bigSep_sep']
  rw [bigSep_univ_at (fun t : Dev nD => (semVal (dmaCell c (sndS t)) 0 : sProp 𝕄)) c,
    bigSep_univ_at (fun t : Dev nD => (semVal (dmaCell c (rcvS t)) 0 : sProp 𝕄)) c,
    bigSep_univ_at (fun t : Dev nD => (held c (slotM t) : sProp 𝕄)) c]
  iintro ⟨⟨⟨#He, HO⟩, ⟨⟨Hslot, Hrow⟩, Hslots, HzS⟩, ⟨Hrows, HzR⟩, ⟨HW0, Hz0⟩, ⟨HW1, Hz1⟩, ⟨HX, HzA⟩, HzB⟩, His, Hir⟩
  imod (idle_close m K c (sndS c) (Nat.succ_ne_zero _) (duty_snd_self c)) $$ [His] with Hzs
  · isplitr; · iexact He
    iexact His
  imod (idle_close m K c (rcvS c) (Nat.succ_ne_zero _) (duty_rcv_self c)) $$ [Hir] with Hzr
  · isplitr; · iexact He
    iexact Hir
  imodintro
  isplitl [HO]; · iexact HO
  isplitl [Hrow Hrows]
  · iapply (rows_join m c)
    rw [bigSep_univ_at (fun s => (rcvPay m c s : sProp 𝕄)) c]
    isplitl [Hrow]; · iexact Hrow
    iexact Hrows
  isplitl [HzB Hz0 Hz1 HzA Hzs HzS Hzr HzR]
  · isplitl [HzB]; · iexact HzB
    isplitl [Hz0 Hz1 HzA]
    · isplitl [Hz0]; · iexact Hz0
      isplitl [Hz1]; · iexact Hz1
      iexact HzA
    isplitl [Hzs HzS]
    · isplitl [Hzs]; · iexact Hzs
      iexact HzS
    isplitl [Hzr]; · iexact Hzr
    iexact HzR
  isplitl [HX]; · iapply (held_of c xM (xV m c)); iexact HX
  isplitl [HW0 HW1]
  · isplitl [HW0]; · iapply (held_of c (halfM 0) (wV m c 0)); iexact HW0
    iapply (held_of c (halfM 1) (wV m c 1)); iexact HW1
  isplitl [Hslot]; · iexact Hslot
  iexact Hslots

/-! ## The pipeline of one point -/

/-- What device `c` has before its body, -/
def Φ₀ (c : Dev nD) : sProp 𝕄 :=
  iprop((∃ K, env m K ∗ places c ∗ rights c) ∗ creds c ∗ reads m c ∗ scratch c ∗ whole c cc0_scratch3)
/-- and after it. -/
def Φ₁ (c : Dev nD) : sProp 𝕄 := iprop(zeros c ∗ scratch c ∗ whole c cc0_scratch3)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- What the body has and what it leaves, with the result's buffer. -/
def bodyPre (c : Dev nD) : sProp 𝕄 :=
  iprop(Φ₀ m c ∗ (dats m ρ 0 c).owesAt () t0_0.castSucc
    ∗ ∃ d, owns (c : Thread nD τ) oM fullShare ((dats m ρ 0 c).before (0 : Fin 1) t0_0 d))
def bodyPost (c : Dev nD) : sProp 𝕄 :=
  iprop(Φ₁ c ∗ (dats m ρ 0 c).owesAt () t0_0.succ ∗ owns (c : Thread nD τ) oM fullShare (outV m c))

/-- The body on device `c`, from what it has before to what it has after. -/
theorem sound (c : Dev nD) {h0 : xA.IsWhole} {h1 : wA.IsWhole} {h2 : oM.IsWhole} {h3 : xM.IsWhole} {h4 : wM.IsWhole} {h5 : sM.IsWhole} {h6 : eM.IsWhole} :
    bodyPre m ρ c ⊢ WP c (cc0_body_v3 xA h0 wA h1 oM h2 xM h3 wM h4 sM h5 eM h6 cc0_scratch4 cc0_scratch5 cc0_scratch6 cc0_scratch7) (fun _ => bodyPost m ρ c) := by
  have hend (K : Dev nD × Fin 36 → ℕ) :
      iprop(bodyEnd m K c ∗ (idle c ∗ whole c cc0_scratch3)) ⊢ |={Set.univ}=> (bodyPost m ρ c : sProp 𝕄) := by
    iintro ⟨HE, HI, H3⟩
    imod (leave m K c) $$ [HE HI] with ⟨⟨%W, HO⟩, Hout, Hz, Hs⟩
    · isplitl [HE] <;> iassumption
    imodintro
    unfold bodyPost Φ₁ Dat.owesAt Pipeline.owesWithin
    rw [show (dats m ρ 0 c).owed t0_0.succ = 0 from rfl]
    isplitl [Hz Hs H3]
    · isplitl [Hz]; · iexact Hz
      isplitl [Hs]; · iexact Hs
      iexact H3
    isplitl [HO]
    · iexists W
      isplitr; · ipureintro; exact fun _ _ => Or.inl trivial
      iexact HO
    iexact Hout
  unfold bodyPre Φ₀ Dat.owesAt Pipeline.owesWithin scratch
  rw [show (dats m ρ 0 c).owed t0_0.castSucc = O₀ c from rfl]
  iintro ⟨⟨⟨%K, He, Hpl⟩, Hcr, Hrd, ⟨H0, H1, H2⟩, H3⟩, ⟨%W, %hW, HO⟩, ⟨%d, Hout⟩⟩
  iapply (wp_fupd frame (wpE (defs₀ (F := F)) 𝒱₀ (c : Thread nD τ) none) Set.univ _ fun _ => bodyPost m ρ c)
  iapply (body m K c (qx := fullShare.left) (q0 := fullShare.left.left) (q1 := fullShare.left.right) (R := iprop(idle c ∗ whole c cc0_scratch3)) (hend K))
  ihave Ho := (held_of c oM _) $$ Hout
  ihave Ho' := (show (held c oM : sProp 𝕄) ⊢ whole c cc0_stg0_0 from by
    rw [held_eq, Memref.view_whole, View.set_whole]; exact .rfl) $$ Ho
  ihave H := (enter m K c) $$ [He HO Hpl Hcr Hrd Ho' H0 H1 H2]
  · isplitl [He HO]
    · unfold ow
      isplitl [He]; · iexact He
      iexists W; iexact HO
    isplitl [Hpl]; · iexact Hpl
    isplitl [Hcr]; · iexact Hcr
    isplitl [Hrd]; · iexact Hrd
    isplitl [Ho']; · iexact Ho'
    isplitl [H0]; · iexact H0
    isplitl [H1]; · iexact H1
    iexact H2
  icases H with ⟨HS, HI⟩
  isplitl [HS]; · iexact HS
  isplitl [HI]; · iexact HI
  iexact H3

set_option maxRecDepth 4000 in
theorem body_obligation (c : Dev nD) : BodyObligation (dats (F := F) m ρ 0 c) (defs₀ (F := F)) 𝒱₀ () Set.univ := fun t => by
  rw [show t = t0_0 from fin_N0 t, bigSep_W0, bigSep_W0]
  exact sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(((∃ K, env m K ∗ places c ∗ rights c) ∗ creds c ∗ reads m c) ∗ keeps m c) := by
  rw [show (Pipeline.unscopedRestP Pipeline.Prefetch.none cfg0.spec c (fun b => m ((c : Thread nD τ).loc b)) : sProp 𝕄)
      = iprop(arg m c main_arg0 fullShare ∗ arg m c main_arg1 fullShare) from
    (Pipeline.unscopedRestP_none cfg0.spec c _).trans (unscopedRest0_eq c _)]
  unfold G'
  iintro ⟨⟨Hx, Hw⟩, Hlev, Hcr, -, %K, HR, Hpl⟩
  ihave Hc := (creds_intro (F := F) c) $$ Hcr
  ihave Hx' := (arg_halves m c main_arg0 fullShare) $$ Hx
  ihave Hw' := (arg_halves m c main_arg1 fullShare) $$ Hw
  icases Hx' with ⟨HxL, HxR⟩
  icases Hw' with ⟨HwL, HwR⟩
  imodintro
  isplitr [HxR HwR]
  · isplitl [HR Hlev Hpl]
    · iexists K
      isplitl [HR Hlev]
      · iapply (env_intro m K)
        isplitl [HR] <;> iassumption
      iexact Hpl
    isplitl [Hc]; · iexact Hc
    unfold reads
    isplitl [HxL] <;> iassumption
  · unfold keeps
    isplitl [HxR] <;> iassumption

theorem phi0_intro (c : Dev nD) :
    iprop(((∃ K, env m K ∗ places c ∗ rights c) ∗ creds c ∗ reads m c)
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch whole
  iintro ⟨⟨HS, HC, HR⟩, -, H0, H1, H2, H3⟩
  isplitl [HS]; · iexact HS
  isplitl [HC]; · iexact HC
  isplitl [HR]; · iexact HR
  isplitr [H3]
  · isplitl [H0]; · iexact H0
    isplitl [H1] <;> iassumption
  iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ zeros
  rw [cells_own c (fun g => semVal g 0)]
  unfold scratch whole Pipeline.ownSems0
  iintro ⟨⟨HB, HZ⟩, ⟨H0, H1, H2⟩, H3⟩
  isplitl [HB]; · iexact HB
  isplitl [HZ]; · iexact HZ
  isplitl [H0]; · iexact H0
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What is read off a device at the end: its arguments as launched, its barrier at zero. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_end (c : Dev nD) (s' : Phys nD τ sig (Elt F)) :
    iprop(unscopedSems0 c ∗ keeps m c ∗ SI s') ⊢ |={Set.univ}=> (iprop(⌜QY m c s'.mem⌝ ∗ SI s') : sProp 𝕄) := by
  unfold keeps
  iintro ⟨Hu, ⟨Hx, Hw⟩, HSI⟩
  icombine HSI Hx gives %hx
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => (hx i (Finset.mem_univ _)), funext fun i => (hw i (Finset.mem_univ _))⟩, hs⟩
  iexact HSI

/-- The result's buffer on device `c` at the end. -/
def finalA (c : Dev nD) (w : Fin cfg0.W) : Buf (Elt F) ((cfg0.win w).arr.view.loc (c : Thread nD τ)) := (dats m ρ 0 c).arrAt w cfg0.N

/-- The one point writes the whole of the result back. -/
theorem final_out (c : Dev nD) : finalA m ρ c 0 = outV m c :=
  (dats m ρ 0 c).arrAt_eq_of_after_last 0 t0_0 (by decide +kernel) (outV m c) fun j => rfl

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0) ∧ r.2.mem ((c : Thread nD τ).loc main_arg1) = m ((c : Thread nD τ).loc main_arg1)

set_option maxRecDepth 8000 in
/-- Every run of the sixteen devices ends, with the arguments as they were, the result of the exchange in each result
    buffer, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := fun c => iprop((∃ K, env m K ∗ places c ∗ rights c) ∗ creds c ∗ reads m c)) (Y := fun c => unscopedSems0 c) (Z := keeps m)
    (hX := start_intro m ρ) (hin := phi0_intro m ρ) (hout := phi1_exit m ρ)
    (QY := QY m) (hY := read_end m)
    (hQ := fun _ h hs => ⟨fun c => ⟨fun w => (h c).1 w, (h c).2.2.1⟩, sem_eq_zero hs fun c => (h c).2.2.2⟩)

/-- The run's result on each device, and its arguments. -/
theorem run_out : θ_run defs (onTc (τ := τ) (main (F := F))) (s₀ m ρ) (fun r => ∀ c : Dev nD,
    r.2.mem ((c : Thread nD τ).loc main_v1) = outV m c
      ∧ r.2.mem ((c : Thread nD τ).loc main_arg0) = m ((c : Thread nD τ).loc main_arg0) ∧ r.2.mem ((c : Thread nD τ).loc main_arg1) = m ((c : Thread nD τ).loc main_arg1)) :=
  (θ_run defs _ _).mono (fun _ h c => ⟨((h.1 c).1 0).trans (final_out m ρ c), (h.1 c).2⟩) (run_main m ρ)

/-- The run leaves the arguments as they were and every semaphore at zero. -/
theorem run_quiet : θ_run defs (onTc (τ := τ) (main (F := F))) (s₀ m ρ) (fun r => (∀ c : Dev nD,
    r.2.mem ((c : Thread nD τ).loc main_arg0) = m ((c : Thread nD τ).loc main_arg0) ∧ r.2.mem ((c : Thread nD τ).loc main_arg1) = m ((c : Thread nD τ).loc main_arg1))
      ∧ r.2.sem = fun _ => 0) :=
  (θ_run defs _ _).mono (fun _ h => ⟨fun c => (h.1 c).2, h.2⟩) (run_main m ρ)

end Cert.KernelIdealProof

end
-- ==== Proof.KernelIdealValue.lean ====
/-
# `KernelIdealValue`: what the exchange leaves is the reference's result

Over the extended reals: an element of a block of the kernel is the gelu of an inner product of a row of the
activations and a column of the weights, and so is an element of the reference's result; the cubes are bracketed
differently. Then the places: row `r` of the result on device `c` came from device `r / 64`, in the step in which that
device computes the columns of `c`.
-/
module

public import proofs.«01_k».proof.Proof.KernelIdealSplit
public import proofs.«01_k».proof.Proof.Gen.ReferenceIdeal
public import Idealize.ShloMosaic.Lib.Layout
public import Idealize.ShloMosaic.Lib.Pointwise

@[expose] public section

noncomputable section

namespace Cert.KernelIdealProof

open Cert.KernelIdeal Cert.KernelIdeal.Gen
open Idealize.ShloMosaic Idealize.ShloMosaic.TcCoe

/-! ## One element -/

/-- The gelu of an extended real, the cube bracketed as the kernel has it. -/
def gl (y : EReal) : EReal :=
  Ideal.ofBits .f32 0x3F000000#32 * y * (Ideal.ofBits .f32 0x3F800000#32 + Ideal.tanh (Ideal.ofBits .f32 0x3F4C422A#32 * (y + Ideal.ofBits .f32 0x3D372713#32 * y * y * y)))

theorem gelu_apply (x : Vec Ideal S64x1024 .f32) (w : Vec Ideal S1024x512 .f32) (a : Fin 64) (b : Fin 512) :
    gelu x w (ix2 a b) = gl (∑ k : Fin 1024, x (ix2 a k) * w (ix2 k b)) := by
  unfold gelu gl
  pointwise

/-- The reference's result from its arguments. -/
def ref (x w : FVec Ideal ReferenceIdeal.S1024x1024 .f32) : FVec Ideal ReferenceIdeal.S1024x1024 .f32 :=
  have y : FVec Ideal ReferenceIdeal.S1024x1024 .f32 := Host.dotGeneral ReferenceIdeal.dot_S1024x1024_S1024x1024_S1024x1024_1_0_0_1_n_n none x w
  mulf (mulf (broadcastInDim ReferenceIdeal.S1024x1024 ![] ReferenceIdeal.Gen.bcast_S_S1024x1024 (constant ReferenceIdeal.S_ .f32 0x3F000000#32)) y)
    (addf (broadcastInDim ReferenceIdeal.S1024x1024 ![] ReferenceIdeal.Gen.bcast_S_S1024x1024 (constant ReferenceIdeal.S_ .f32 0x3F800000#32))
      (Host.tanh (mulf (broadcastInDim ReferenceIdeal.S1024x1024 ![] ReferenceIdeal.Gen.bcast_S_S1024x1024 (constant ReferenceIdeal.S_ .f32 0x3F4C422A#32))
        (addf y (mulf (broadcastInDim ReferenceIdeal.S1024x1024 ![] ReferenceIdeal.Gen.bcast_S_S1024x1024 (constant ReferenceIdeal.S_ .f32 0x3D372713#32))
          (mulf (mulf y y) y))))))

theorem ref_apply (x w : FVec Ideal ReferenceIdeal.S1024x1024 .f32) (a b : Fin 1024) :
    ref x w (ix2 a b) = gl (∑ k : Fin 1024, x (ix2 a k) * w (ix2 k b)) := by
  unfold ref gl
  pointwise
  simp only [mul_assoc]

/-! ## The places -/

variable (m : (ℓ : Loc nD τ sig) → Buf (Elt Ideal) ℓ)

/-- The arguments of device `c`. -/
abbrev argX (c : Dev nD) : FVec Ideal S64x1024 .f32 := m ((c : Thread nD τ).loc main_arg0)
abbrev argW (c : Dev nD) : FVec Ideal S1024x1024 .f32 := m ((c : Thread nD τ).loc main_arg1)

theorem xV_apply (c : Dev nD) (a : Fin 64) (k : Fin 1024) : xV m c (ix2 a k) = argX m c (ix2 a k) := rfl

/-- A column of a half of the weights is the column of the weights at which the half begins and as far on. -/
theorem wV_apply (c : Dev nD) (b : Fin 2) (k : Fin 1024) (j : Fin 512) (j' : Fin 1024) (h : j'.val = 512 * ((c.val / 8 + 1 + b.val) % 2) + j.val) :
    wV m c b (ix2 k j) = argW m c (ix2 k j') := by
  show argW m c ((Rect.unit (s := S1024x1024) (colOff c b) S1024x512.size (cols_inb c b)).emb (ix2 k j)) = _
  congr 1
  funext a
  refine Fin.ext ?_
  fin_cases a
  · show 0 + 1 * k.val = k.val; omega
  · show 512 * ((c.val / 8 + 1 + b.val) % 2) + 1 * j.val = j'.val; omega

theorem cut_apply (t : Fin 8) (y : FVec Ideal S64x512 .f32) (a j : Fin 64) (j' : Fin 512) (h : j'.val = 64 * t.val + j.val) :
    cut t y (ix2 a j) = y (ix2 a j') := by
  unfold cut
  pointwise
  congr 1
  funext b
  refine Fin.ext ?_
  fin_cases b
  · show _ = a.val; simp
  · show _ = j'.val; simp [h]

/-- The block device `s` computes for device `c`. -/
theorem blk_apply (s c : Dev nD) (a j : Fin 64) (j' : Fin 1024) (h : j'.val = 64 * c.val + j.val) :
    blk m s (stepOf s c) (ix2 a j)
      = gl (∑ k : Fin 1024, argX m s (ix2 a k) * argW m s (ix2 k j')) := by
  have hs : s.val < 16 := s.isLt
  have hc : c.val < 16 := c.isLt
  have hj : j.val < 64 := j.isLt
  have e8 : stepOf s c % 8 = c.val % 8 := by unfold stepOf; omega
  have e2 : stepOf s c / 8 % 2 = (c.val / 8 + s.val / 8 + 1) % 2 := by unfold stepOf; omega
  unfold blk
  rw [cut_apply _ _ a j ⟨64 * (c.val % 8) + j.val, by omega⟩ (by show _ = 64 * (stepOf s c % 8) + _; rw [e8]), gelu_apply]
  congr 1
  refine Finset.sum_congr rfl fun k _ => ?_
  rw [xV_apply, wV_apply m s _ k _ j' (by
    show j'.val = 512 * ((s.val / 8 + 1 + stepOf s c / 8 % 2) % 2) + (64 * (c.val % 8) + j.val)
    rw [e2, h]; omega)]

/-- The result on device `c` is its block of columns of the reference's result. -/
theorem outV_eq (x w : FVec Ideal ReferenceIdeal.S1024x1024 .f32)
    (hx : ∀ c : Dev nD, argX m c = Layout.block ⟨2, ![64, 1024]⟩ ⟨2, ![1024, 1024]⟩ 0 16 c x)
    (hw : ∀ c : Dev nD, argW m c = w) (c : Dev nD) :
    outV m c = Layout.block ⟨2, ![1024, 64]⟩ ⟨2, ![1024, 1024]⟩ 1 16 c (ref x w) := by
  funext i
  have h0 : (i 0).val < 1024 := (i 0).isLt
  have h1 : (i 1).val < 64 := (i 1).isLt
  have hc : c.val < 16 := c.isLt
  let s : Dev nD := ⟨(i 0).val / 64, by show _ < 16; omega⟩
  let a : Fin 64 := ⟨(i 0).val % 64, Nat.mod_lt _ (by omega)⟩
  let j' : Fin 1024 := ⟨64 * c.val + (i 1).val, by omega⟩
  have hl : outV m c i = blk m s (stepOf s c) (ix2 a ⟨(i 1).val, h1⟩) := by
    unfold outV
    congr 1
    funext b
    refine Fin.ext ?_
    fin_cases b <;> rfl
  have hr : (Layout.block ⟨2, ![1024, 64]⟩ ⟨2, ![1024, 1024]⟩ 1 16 c (ref x w)) i = ref x w (ix2 ⟨(i 0).val, h0⟩ j') := by
    rw [Layout.block_apply]
    congr 1
    funext b
    refine Fin.ext ?_
    rw [Layout.Tiles.idx_val]
    fin_cases b
    · rfl
    · show c.val * 64 + (i 1).val = 64 * c.val + (i 1).val; omega
  rw [hl, hr, blk_apply m s c a ⟨(i 1).val, h1⟩ j' rfl, ref_apply]
  congr 1
  refine Finset.sum_congr rfl fun k _ => ?_
  rw [hw, hx, Layout.block_apply]
  congr 2
  funext b
  refine Fin.ext ?_
  rw [Layout.Tiles.idx_val]
  fin_cases b
  · show (i 0).val / 64 * 64 + (i 0).val % 64 = (i 0).val; omega
  · rfl

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Adequacy
public import Idealize.ShloMosaic.Init

@[expose] public section

noncomputable section

namespace Cert.Proof

open Idealize.ShloMosaic Idealize.SL.Sem

/-- The kernel as printed runs, leaves its arguments, and leaves its semaphores at zero. -/
theorem quiet_Kernel : Cert.quiescent_Kernel (hKernel := Cert.Kernel.Gen.facts) :=
  fun m g _ => Cert.KernelProof.run_quiet m g

/-- So does its idealization. -/
theorem quiet_KernelIdeal : Cert.quiescent_KernelIdeal (hKernelIdeal := Cert.KernelIdeal.Gen.facts) :=
  fun m g _ => Cert.KernelIdealProof.run_quiet m g

/-- So does the reference, which has no semaphore. -/
theorem quiet_ReferenceIdeal : Cert.quiescent_ReferenceIdeal (hReferenceIdeal := Cert.ReferenceIdeal.Gen.facts) :=
  fun m g _ => (θ_run _ _ _).mono (fun _ h => ⟨fun c => (h c).2, funext fun
    | ⟨_, .reg q⟩ => Fin.elim0 q
    | ⟨_, .dma q⟩ => Fin.elim0 q⟩)
    (Cert.ReferenceIdeal.Value.run m g)

/-- The blocks of columns on the sixteen devices are those of the reference's result. -/
theorem value : Cert.algebraic_KernelIdeal_ReferenceIdeal (hKernelIdeal := Cert.KernelIdeal.Gen.facts) (hReferenceIdeal := Cert.ReferenceIdeal.Gen.facts) :=
  fun m g m' g' _ h =>
    ⟨Cert.KernelIdealProof.ref _ _,
      (θ_run _ _ _).mono (fun _ hr c =>
        ⟨(hr c).1.trans (Cert.KernelIdealProof.outV_eq m _ _ (fun c => (h c).1) (fun c => (h c).2) c), (hr c).2⟩)
        (Cert.KernelIdealProof.run_out m g),
      (θ_run _ _ _).mono (fun _ hr => ⟨(hr 0).1, (hr 0).2⟩) (Cert.ReferenceIdeal.Value.run m' g')⟩

theorem claim : Cert.Claim := ⟨Cert.Kernel.Gen.facts, Cert.KernelIdeal.Gen.facts, Cert.ReferenceIdeal.Gen.facts,
  quiet_Kernel, quiet_KernelIdeal, quiet_ReferenceIdeal, trivial, value⟩

end Cert.Proof

end
